-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v135)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v135) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v383) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x3x8192x32 : Shape := ⟨4, ![8, 3, 8192, 32]⟩
abbrev S1x4x5x5 : Shape := ⟨4, ![1, 4, 5, 5]⟩
abbrev S1 : Shape := ⟨1, ![1]⟩
abbrev S3 : Shape := ⟨1, ![3]⟩
abbrev S2880 : Shape := ⟨1, ![2880]⟩
abbrev S3x32x8x8192 : Shape := ⟨4, ![3, 32, 8, 8192]⟩
abbrev S3x32x65536 : Shape := ⟨3, ![3, 32, 65536]⟩
abbrev S3x65536 : Shape := ⟨2, ![3, 65536]⟩
abbrev S3x32x2048 : Shape := ⟨3, ![3, 32, 2048]⟩
abbrev S3x2048 : Shape := ⟨2, ![3, 2048]⟩
abbrev S1x32x2048 : Shape := ⟨3, ![1, 32, 2048]⟩
abbrev S32x2048 : Shape := ⟨2, ![32, 2048]⟩
abbrev S2048 : Shape := ⟨1, ![2048]⟩
abbrev S1x2048 : Shape := ⟨2, ![1, 2048]⟩
abbrev S65536x3 : Shape := ⟨2, ![65536, 3]⟩
abbrev S_ : Shape := ⟨0, ![]⟩
abbrev S65536 : Shape := ⟨1, ![65536]⟩
abbrev S65536x1 : Shape := ⟨2, ![65536, 1]⟩
abbrev S1x65536 : Shape := ⟨2, ![1, 65536]⟩
abbrev S65536x1x3 : Shape := ⟨3, ![65536, 1, 3]⟩
abbrev S65536x3x3 : Shape := ⟨3, ![65536, 3, 3]⟩
abbrev S3x3 : Shape := ⟨2, ![3, 3]⟩
abbrev S65536x1x1 : Shape := ⟨3, ![65536, 1, 1]⟩
abbrev S65536x9 : Shape := ⟨2, ![65536, 9]⟩
abbrev S9x65536 : Shape := ⟨2, ![9, 65536]⟩
abbrev S144x36 : Shape := ⟨2, ![144, 36]⟩
abbrev S100 : Shape := ⟨1, ![100]⟩
abbrev S2880x1 : Shape := ⟨2, ![2880, 1]⟩
abbrev S2880x2 : Shape := ⟨2, ![2880, 2]⟩
abbrev S36x144 : Shape := ⟨2, ![36, 144]⟩
abbrev S1x1 : Shape := ⟨2, ![1, 1]⟩
abbrev S32x65536 : Shape := ⟨2, ![32, 65536]⟩
abbrev S3x32x512 : Shape := ⟨3, ![3, 32, 512]⟩
abbrev S9x512 : Shape := ⟨2, ![9, 512]⟩
abbrev S32x512 : Shape := ⟨2, ![32, 512]⟩
abbrev S1x32x512 : Shape := ⟨3, ![1, 32, 512]⟩
abbrev S1x512 : Shape := ⟨2, ![1, 512]⟩
abbrev S512 : Shape := ⟨1, ![512]⟩
abbrev S144x512 : Shape := ⟨2, ![144, 512]⟩
abbrev S36x512 : Shape := ⟨2, ![36, 512]⟩
abbrev S32x8x8192 : Shape := ⟨3, ![32, 8, 8192]⟩
abbrev S8x8192x32 : Shape := ⟨3, ![8, 8192, 32]⟩
abbrev S8x1x8192x32 : Shape := ⟨4, ![8, 1, 8192, 32]⟩

abbrev nBuf : Space → Nat
  | .hbm => 238
  | .vmem => 12
  | .smem => 0
  | _ => 0

abbrev hbmTy0_0 (i : Nat) : BufTy := match i % 128 with
  | 0 => ⟨S8x3x8192x32, .f32⟩
  | 1 => ⟨S1x4x5x5, .f32⟩
  | 2 => ⟨S1, .f32⟩
  | 3 => ⟨S3, .f32⟩
  | 4 => ⟨S3, .f32⟩
  | 5 => ⟨S3, .f32⟩
  | 6 => ⟨S2880, .i32⟩
  | 7 => ⟨S2880, .i1⟩
  | 8 => ⟨S2880, .i32⟩
  | 9 => ⟨S2880, .i1⟩
  | 10 => ⟨S2880, .i32⟩
  | 11 => ⟨S2880, .i1⟩
  | 12 => ⟨S3x32x8x8192, .f32⟩
  | 13 => ⟨S3x32x65536, .f32⟩
  | 14 => ⟨S3x32x65536, .bf16⟩
  | 15 => ⟨S3x65536, .f32⟩
  | 16 => ⟨S65536x3, .f32⟩
  | 17 => ⟨S65536x3, .f32⟩
  | 18 => ⟨S_, .f32⟩
  | 19 => ⟨S65536, .f32⟩
  | 20 => ⟨S65536x1, .f32⟩
  | 21 => ⟨S65536x1, .f32⟩
  | 22 => ⟨S_, .f32⟩
  | 23 => ⟨S65536x1, .f32⟩
  | 24 => ⟨S65536x1, .f32⟩
  | 25 => ⟨S65536x3, .f32⟩
  | 26 => ⟨S65536x3, .f32⟩
  | 27 => ⟨S65536x3, .f32⟩
  | 28 => ⟨S65536x3, .f32⟩
  | 29 => ⟨S_, .f32⟩
  | 30 => ⟨S65536, .f32⟩
  | 31 => ⟨S65536x1, .f32⟩
  | 32 => ⟨S65536x1, .f32⟩
  | 33 => ⟨S_, .f32⟩
  | 34 => ⟨S65536x1, .f32⟩
  | 35 => ⟨S65536x1, .f32⟩
  | 36 => ⟨S65536x3, .f32⟩
  | 37 => ⟨S65536x3, .f32⟩
  | 38 => ⟨S65536x1, .f32⟩
  | 39 => ⟨S65536, .f32⟩
  | 40 => ⟨S65536x1, .f32⟩
  | 41 => ⟨S65536, .f32⟩
  | 42 => ⟨S65536x1, .f32⟩
  | 43 => ⟨S65536, .f32⟩
  | 44 => ⟨S65536x1, .f32⟩
  | 45 => ⟨S65536, .f32⟩
  | 46 => ⟨S65536x1, .f32⟩
  | 47 => ⟨S65536, .f32⟩
  | 48 => ⟨S65536x1, .f32⟩
  | 49 => ⟨S65536, .f32⟩
  | 50 => ⟨S65536, .f32⟩
  | 51 => ⟨S65536, .f32⟩
  | 52 => ⟨S65536, .f32⟩
  | 53 => ⟨S65536, .f32⟩
  | 54 => ⟨S65536, .f32⟩
  | 55 => ⟨S65536, .f32⟩
  | 56 => ⟨S65536, .f32⟩
  | 57 => ⟨S65536, .f32⟩
  | 58 => ⟨S65536, .f32⟩
  | 59 => ⟨S1x65536, .f32⟩
  | 60 => ⟨S1x65536, .f32⟩
  | 61 => ⟨S1x65536, .f32⟩
  | 62 => ⟨S3x65536, .f32⟩
  | 63 => ⟨S65536x3, .f32⟩
  | 64 => ⟨S65536x3, .f32⟩
  | 65 => ⟨S_, .f32⟩
  | 66 => ⟨S65536, .f32⟩
  | 67 => ⟨S65536x1, .f32⟩
  | 68 => ⟨S65536x1, .f32⟩
  | 69 => ⟨S65536x3, .f32⟩
  | 70 => ⟨S_, .f32⟩
  | 71 => ⟨S65536, .f32⟩
  | 72 => ⟨S65536x1, .f32⟩
  | 73 => ⟨S65536, .f32⟩
  | 74 => ⟨S_, .f32⟩
  | 75 => ⟨S65536, .f32⟩
  | 76 => ⟨S65536, .i1⟩
  | 77 => ⟨S65536, .f32⟩
  | 78 => ⟨S_, .f32⟩
  | 79 => ⟨S65536, .f32⟩
  | 80 => ⟨S65536, .i1⟩
  | 81 => ⟨S65536, .i1⟩
  | 82 => ⟨S65536, .f32⟩
  | 83 => ⟨S_, .f32⟩
  | 84 => ⟨S65536, .f32⟩
  | 85 => ⟨S65536, .i1⟩
  | 86 => ⟨S65536, .f32⟩
  | 87 => ⟨S_, .f32⟩
  | 88 => ⟨S65536, .f32⟩
  | 89 => ⟨S65536, .i1⟩
  | 90 => ⟨S65536, .i1⟩
  | 91 => ⟨S65536x3, .f32⟩
  | 92 => ⟨S65536x3, .f32⟩
  | 93 => ⟨S65536x1, .f32⟩
  | 94 => ⟨S65536x1, .f32⟩
  | 95 => ⟨S_, .f32⟩
  | 96 => ⟨S65536x1, .f32⟩
  | 97 => ⟨S65536x1, .i1⟩
  | 98 => ⟨S65536x3, .i1⟩
  | 99 => ⟨S65536x3, .f32⟩
  | 100 => ⟨S65536x1, .f32⟩
  | 101 => ⟨S65536, .f32⟩
  | 102 => ⟨S65536x1, .f32⟩
  | 103 => ⟨S65536, .f32⟩
  | 104 => ⟨S65536x1, .f32⟩
  | 105 => ⟨S65536, .f32⟩
  | 106 => ⟨S65536x1, .f32⟩
  | 107 => ⟨S65536, .f32⟩
  | 108 => ⟨S65536x1, .f32⟩
  | 109 => ⟨S65536, .f32⟩
  | 110 => ⟨S65536x1, .f32⟩
  | 111 => ⟨S65536, .f32⟩
  | 112 => ⟨S65536, .f32⟩
  | 113 => ⟨S65536, .f32⟩
  | 114 => ⟨S65536, .f32⟩
  | 115 => ⟨S65536, .f32⟩
  | 116 => ⟨S65536, .f32⟩
  | 117 => ⟨S65536, .f32⟩
  | 118 => ⟨S65536, .f32⟩
  | 119 => ⟨S65536, .f32⟩
  | 120 => ⟨S65536, .f32⟩
  | 121 => ⟨S1x65536, .f32⟩
  | 122 => ⟨S1x65536, .f32⟩
  | 123 => ⟨S1x65536, .f32⟩
  | 124 => ⟨S3x65536, .f32⟩
  | 125 => ⟨S65536x3, .f32⟩
  | 126 => ⟨S65536x3, .f32⟩
  | 127 => ⟨S_, .f32⟩
  | _ => ⟨S8x3x8192x32, .f32⟩

abbrev hbmTy0_1 (i : Nat) : BufTy := match i % 128 with
  | 0 => ⟨S65536, .f32⟩
  | 1 => ⟨S65536x1, .f32⟩
  | 2 => ⟨S65536x1, .f32⟩
  | 3 => ⟨S_, .f32⟩
  | 4 => ⟨S65536x1, .f32⟩
  | 5 => ⟨S65536x1, .f32⟩
  | 6 => ⟨S65536x3, .f32⟩
  | 7 => ⟨S65536x3, .f32⟩
  | 8 => ⟨S65536x1, .i1⟩
  | 9 => ⟨S65536x3, .i1⟩
  | 10 => ⟨S65536x3, .f32⟩
  | 11 => ⟨S65536x3, .f32⟩
  | 12 => ⟨S_, .f32⟩
  | 13 => ⟨S65536, .f32⟩
  | 14 => ⟨S65536x1, .f32⟩
  | 15 => ⟨S65536x1, .f32⟩
  | 16 => ⟨S_, .f32⟩
  | 17 => ⟨S65536x1, .f32⟩
  | 18 => ⟨S65536x1, .f32⟩
  | 19 => ⟨S65536x3, .f32⟩
  | 20 => ⟨S65536x3, .f32⟩
  | 21 => ⟨S65536x1, .f32⟩
  | 22 => ⟨S65536, .f32⟩
  | 23 => ⟨S_, .f32⟩
  | 24 => ⟨S65536, .f32⟩
  | 25 => ⟨S65536x1, .f32⟩
  | 26 => ⟨S65536, .f32⟩
  | 27 => ⟨S65536, .f32⟩
  | 28 => ⟨S65536x1, .f32⟩
  | 29 => ⟨S65536, .f32⟩
  | 30 => ⟨S65536x1, .f32⟩
  | 31 => ⟨S65536x1, .f32⟩
  | 32 => ⟨S65536x1, .f32⟩
  | 33 => ⟨S65536x3, .f32⟩
  | 34 => ⟨S65536x1, .f32⟩
  | 35 => ⟨S65536, .f32⟩
  | 36 => ⟨S65536x1, .f32⟩
  | 37 => ⟨S65536, .f32⟩
  | 38 => ⟨S65536, .f32⟩
  | 39 => ⟨S65536x1, .f32⟩
  | 40 => ⟨S65536x1, .f32⟩
  | 41 => ⟨S65536x1, .f32⟩
  | 42 => ⟨S65536x3, .f32⟩
  | 43 => ⟨S65536x1, .f32⟩
  | 44 => ⟨S65536, .f32⟩
  | 45 => ⟨S65536, .f32⟩
  | 46 => ⟨S65536x1, .f32⟩
  | 47 => ⟨S65536, .f32⟩
  | 48 => ⟨S65536x1, .f32⟩
  | 49 => ⟨S65536x1, .f32⟩
  | 50 => ⟨S65536x1, .f32⟩
  | 51 => ⟨S65536x3, .f32⟩
  | 52 => ⟨S65536x1x3, .f32⟩
  | 53 => ⟨S65536x1x3, .f32⟩
  | 54 => ⟨S65536x1x3, .f32⟩
  | 55 => ⟨S65536x3x3, .f32⟩
  | 56 => ⟨S3x3, .i32⟩
  | 57 => ⟨S3x3, .i32⟩
  | 58 => ⟨S_, .i32⟩
  | 59 => ⟨S3x3, .i32⟩
  | 60 => ⟨S3x3, .i32⟩
  | 61 => ⟨S3x3, .i1⟩
  | 62 => ⟨S3x3, .f32⟩
  | 63 => ⟨S65536x3x3, .f32⟩
  | 64 => ⟨S65536x1x1, .f32⟩
  | 65 => ⟨S65536x3x3, .f32⟩
  | 66 => ⟨S65536x3x3, .f32⟩
  | 67 => ⟨S65536x3x3, .f32⟩
  | 68 => ⟨S65536x3x3, .f32⟩
  | 69 => ⟨S65536x1x1, .f32⟩
  | 70 => ⟨S_, .f32⟩
  | 71 => ⟨S65536x1x1, .f32⟩
  | 72 => ⟨S65536x1x1, .f32⟩
  | 73 => ⟨S65536x3x3, .f32⟩
  | 74 => ⟨S65536x3x3, .f32⟩
  | 75 => ⟨S65536x3x3, .f32⟩
  | 76 => ⟨S65536x1x1, .i1⟩
  | 77 => ⟨S65536x3x3, .i1⟩
  | 78 => ⟨S65536x3x3, .f32⟩
  | 79 => ⟨S65536x9, .f32⟩
  | 80 => ⟨S9x65536, .f32⟩
  | 81 => ⟨S9x65536, .bf16⟩
  | 82 => ⟨S_, .f32⟩
  | 83 => ⟨S144x36, .f32⟩
  | 84 => ⟨S100, .f32⟩
  | 85 => ⟨S_, .i32⟩
  | 86 => ⟨S2880, .i32⟩
  | 87 => ⟨S2880, .i32⟩
  | 88 => ⟨S2880, .i32⟩
  | 89 => ⟨S2880x1, .i32⟩
  | 90 => ⟨S2880, .f32⟩
  | 91 => ⟨S_, .i32⟩
  | 92 => ⟨S2880, .i32⟩
  | 93 => ⟨S2880, .i32⟩
  | 94 => ⟨S2880, .i32⟩
  | 95 => ⟨S_, .i32⟩
  | 96 => ⟨S2880, .i32⟩
  | 97 => ⟨S2880, .i32⟩
  | 98 => ⟨S2880, .i32⟩
  | 99 => ⟨S2880x1, .i32⟩
  | 100 => ⟨S2880x1, .i32⟩
  | 101 => ⟨S2880x2, .i32⟩
  | 102 => ⟨S144x36, .f32⟩
  | 103 => ⟨S36x144, .f32⟩
  | 104 => ⟨S36x144, .bf16⟩
  | 105 => ⟨S1x1, .f32⟩
  | 106 => ⟨S32x65536, .f32⟩
  | 107 => ⟨S32x8x8192, .f32⟩
  | 108 => ⟨S8x8192x32, .f32⟩
  | 109 => ⟨S8x1x8192x32, .f32⟩
  | _ => ⟨S8x3x8192x32, .f32⟩

abbrev hbmTy (i : Nat) : BufTy := match i / 128 with
  | 0 => hbmTy0_0 i
  | 1 => hbmTy0_1 i
  | _ => ⟨S8x3x8192x32, .f32⟩

abbrev bufTy : (tb : Table) → Fin (tcTables nBuf tb) → BufTy
  | .hbm, ⟨i, _⟩ => hbmTy i
  | .local _ .vmem, ⟨0, _⟩ => ⟨S3x32x2048, .f32⟩
  | .local _ .vmem, ⟨1, _⟩ => ⟨S3x32x2048, .f32⟩
  | .local _ .vmem, ⟨2, _⟩ => ⟨S3x2048, .f32⟩
  | .local _ .vmem, ⟨3, _⟩ => ⟨S3x2048, .f32⟩
  | .local _ .vmem, ⟨4, _⟩ => ⟨S3x32x512, .bf16⟩
  | .local _ .vmem, ⟨5, _⟩ => ⟨S3x32x512, .bf16⟩
  | .local _ .vmem, ⟨6, _⟩ => ⟨S9x512, .bf16⟩
  | .local _ .vmem, ⟨7, _⟩ => ⟨S9x512, .bf16⟩
  | .local _ .vmem, ⟨8, _⟩ => ⟨S36x144, .bf16⟩
  | .local _ .vmem, ⟨9, _⟩ => ⟨S1x1, .f32⟩
  | .local _ .vmem, ⟨10, _⟩ => ⟨S32x512, .f32⟩
  | .local _ .vmem, ⟨11, _⟩ => ⟨S32x512, .f32⟩
  | _, _ => ⟨S8x3x8192x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_c : Ref sig .tc := ⟨.hbm, 6, rfl⟩
abbrev main_c_2 : Ref sig .tc := ⟨.hbm, 7, rfl⟩
abbrev main_c_3 : Ref sig .tc := ⟨.hbm, 8, rfl⟩
abbrev main_c_4 : Ref sig .tc := ⟨.hbm, 9, rfl⟩
abbrev main_c_5 : Ref sig .tc := ⟨.hbm, 10, rfl⟩
abbrev main_c_6 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_v0 : Ref sig .tc := ⟨.hbm, 17, rfl⟩
abbrev main_call0_cst : Ref sig .tc := ⟨.hbm, 18, rfl⟩
abbrev main_call0_v1 : Ref sig .tc := ⟨.hbm, 19, rfl⟩
abbrev main_call0_v2 : Ref sig .tc := ⟨.hbm, 20, rfl⟩
abbrev main_v5 : Ref sig .tc := ⟨.hbm, 21, rfl⟩
abbrev main_cst_7 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_call1_v0 : Ref sig .tc := ⟨.hbm, 28, rfl⟩
abbrev main_call1_cst : Ref sig .tc := ⟨.hbm, 29, rfl⟩
abbrev main_call1_v1 : Ref sig .tc := ⟨.hbm, 30, rfl⟩
abbrev main_call1_v2 : Ref sig .tc := ⟨.hbm, 31, rfl⟩
abbrev main_v11 : Ref sig .tc := ⟨.hbm, 32, rfl⟩
abbrev main_cst_8 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_v5 : Ref sig .tc := ⟨.hbm, 43, rfl⟩
abbrev main_call2_v6 : Ref sig .tc := ⟨.hbm, 44, rfl⟩
abbrev main_call2_v7 : Ref sig .tc := ⟨.hbm, 45, rfl⟩
abbrev main_call2_v8 : Ref sig .tc := ⟨.hbm, 46, rfl⟩
abbrev main_call2_v9 : Ref sig .tc := ⟨.hbm, 47, rfl⟩
abbrev main_call2_v10 : Ref sig .tc := ⟨.hbm, 48, rfl⟩
abbrev main_call2_v11 : Ref sig .tc := ⟨.hbm, 49, rfl⟩
abbrev main_call2_v12 : Ref sig .tc := ⟨.hbm, 50, rfl⟩
abbrev main_call2_v13 : Ref sig .tc := ⟨.hbm, 51, rfl⟩
abbrev main_call2_v14 : Ref sig .tc := ⟨.hbm, 52, rfl⟩
abbrev main_call2_v15 : Ref sig .tc := ⟨.hbm, 53, rfl⟩
abbrev main_call2_v16 : Ref sig .tc := ⟨.hbm, 54, rfl⟩
abbrev main_call2_v17 : Ref sig .tc := ⟨.hbm, 55, rfl⟩
abbrev main_call2_v18 : Ref sig .tc := ⟨.hbm, 56, rfl⟩
abbrev main_call2_v19 : Ref sig .tc := ⟨.hbm, 57, rfl⟩
abbrev main_call2_v20 : Ref sig .tc := ⟨.hbm, 58, rfl⟩
abbrev main_call2_v21 : Ref sig .tc := ⟨.hbm, 59, rfl⟩
abbrev main_call2_v22 : Ref sig .tc := ⟨.hbm, 60, rfl⟩
abbrev main_call2_v23 : Ref sig .tc := ⟨.hbm, 61, rfl⟩
abbrev main_call2_v24 : Ref sig .tc := ⟨.hbm, 62, rfl⟩
abbrev main_v16 : Ref sig .tc := ⟨.hbm, 63, rfl⟩
abbrev main_call3_v0 : Ref sig .tc := ⟨.hbm, 64, rfl⟩
abbrev main_call3_cst : Ref sig .tc := ⟨.hbm, 65, rfl⟩
abbrev main_call3_v1 : Ref sig .tc := ⟨.hbm, 66, rfl⟩
abbrev main_call3_v2 : Ref sig .tc := ⟨.hbm, 67, rfl⟩
abbrev main_v17 : Ref sig .tc := ⟨.hbm, 68, rfl⟩
abbrev main_v18 : Ref sig .tc := ⟨.hbm, 69, rfl⟩
abbrev main_cst_9 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_cst_10 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_cst_11 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_cst_12 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_cst_13 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_cst_14 : Ref sig .tc := ⟨.hbm, 95, rfl⟩
abbrev main_v39 : Ref sig .tc := ⟨.hbm, 96, rfl⟩
abbrev main_v40 : Ref sig .tc := ⟨.hbm, 97, rfl⟩
abbrev main_call4_v0 : Ref sig .tc := ⟨.hbm, 98, rfl⟩
abbrev main_v41 : Ref sig .tc := ⟨.hbm, 99, rfl⟩
abbrev main_call5_v0 : Ref sig .tc := ⟨.hbm, 100, rfl⟩
abbrev main_call5_v1 : Ref sig .tc := ⟨.hbm, 101, rfl⟩
abbrev main_call5_v2 : Ref sig .tc := ⟨.hbm, 102, rfl⟩
abbrev main_call5_v3 : Ref sig .tc := ⟨.hbm, 103, rfl⟩
abbrev main_call5_v4 : Ref sig .tc := ⟨.hbm, 104, rfl⟩
abbrev main_call5_v5 : Ref sig .tc := ⟨.hbm, 105, rfl⟩
abbrev main_call5_v6 : Ref sig .tc := ⟨.hbm, 106, rfl⟩
abbrev main_call5_v7 : Ref sig .tc := ⟨.hbm, 107, rfl⟩
abbrev main_call5_v8 : Ref sig .tc := ⟨.hbm, 108, rfl⟩
abbrev main_call5_v9 : Ref sig .tc := ⟨.hbm, 109, rfl⟩
abbrev main_call5_v10 : Ref sig .tc := ⟨.hbm, 110, rfl⟩
abbrev main_call5_v11 : Ref sig .tc := ⟨.hbm, 111, rfl⟩
abbrev main_call5_v12 : Ref sig .tc := ⟨.hbm, 112, rfl⟩
abbrev main_call5_v13 : Ref sig .tc := ⟨.hbm, 113, rfl⟩
abbrev main_call5_v14 : Ref sig .tc := ⟨.hbm, 114, rfl⟩
abbrev main_call5_v15 : Ref sig .tc := ⟨.hbm, 115, rfl⟩
abbrev main_call5_v16 : Ref sig .tc := ⟨.hbm, 116, rfl⟩
abbrev main_call5_v17 : Ref sig .tc := ⟨.hbm, 117, rfl⟩
abbrev main_call5_v18 : Ref sig .tc := ⟨.hbm, 118, rfl⟩
abbrev main_call5_v19 : Ref sig .tc := ⟨.hbm, 119, rfl⟩
abbrev main_call5_v20 : Ref sig .tc := ⟨.hbm, 120, rfl⟩
abbrev main_call5_v21 : Ref sig .tc := ⟨.hbm, 121, rfl⟩
abbrev main_call5_v22 : Ref sig .tc := ⟨.hbm, 122, rfl⟩
abbrev main_call5_v23 : Ref sig .tc := ⟨.hbm, 123, rfl⟩
abbrev main_call5_v24 : Ref sig .tc := ⟨.hbm, 124, rfl⟩
abbrev main_v42 : Ref sig .tc := ⟨.hbm, 125, rfl⟩
abbrev main_call6_v0 : Ref sig .tc := ⟨.hbm, 126, rfl⟩
abbrev main_call6_cst : Ref sig .tc := ⟨.hbm, 127, rfl⟩
abbrev main_call6_v1 : Ref sig .tc := ⟨.hbm, 128, rfl⟩
abbrev main_call6_v2 : Ref sig .tc := ⟨.hbm, 129, rfl⟩
abbrev main_v43 : Ref sig .tc := ⟨.hbm, 130, rfl⟩
abbrev main_cst_15 : Ref sig .tc := ⟨.hbm, 131, rfl⟩
abbrev main_v44 : Ref sig .tc := ⟨.hbm, 132, rfl⟩
abbrev main_v45 : Ref sig .tc := ⟨.hbm, 133, rfl⟩
abbrev main_v46 : Ref sig .tc := ⟨.hbm, 134, rfl⟩
abbrev main_v47 : Ref sig .tc := ⟨.hbm, 135, rfl⟩
abbrev main_v48 : Ref sig .tc := ⟨.hbm, 136, rfl⟩
abbrev main_call7_v0 : Ref sig .tc := ⟨.hbm, 137, rfl⟩
abbrev main_v49 : Ref sig .tc := ⟨.hbm, 138, rfl⟩
abbrev main_call8_v0 : Ref sig .tc := ⟨.hbm, 139, rfl⟩
abbrev main_call8_cst : Ref sig .tc := ⟨.hbm, 140, rfl⟩
abbrev main_call8_v1 : Ref sig .tc := ⟨.hbm, 141, rfl⟩
abbrev main_call8_v2 : Ref sig .tc := ⟨.hbm, 142, rfl⟩
abbrev main_v50 : Ref sig .tc := ⟨.hbm, 143, rfl⟩
abbrev main_cst_16 : Ref sig .tc := ⟨.hbm, 144, rfl⟩
abbrev main_v51 : Ref sig .tc := ⟨.hbm, 145, rfl⟩
abbrev main_v52 : Ref sig .tc := ⟨.hbm, 146, rfl⟩
abbrev main_v53 : Ref sig .tc := ⟨.hbm, 147, rfl⟩
abbrev main_v54 : Ref sig .tc := ⟨.hbm, 148, rfl⟩
abbrev main_v55 : Ref sig .tc := ⟨.hbm, 149, rfl⟩
abbrev main_v56 : Ref sig .tc := ⟨.hbm, 150, rfl⟩
abbrev main_cst_17 : Ref sig .tc := ⟨.hbm, 151, rfl⟩
abbrev main_v57 : Ref sig .tc := ⟨.hbm, 152, rfl⟩
abbrev main_v58 : Ref sig .tc := ⟨.hbm, 153, rfl⟩
abbrev main_v59 : Ref sig .tc := ⟨.hbm, 154, rfl⟩
abbrev main_v60 : Ref sig .tc := ⟨.hbm, 155, rfl⟩
abbrev main_v61 : Ref sig .tc := ⟨.hbm, 156, rfl⟩
abbrev main_v62 : Ref sig .tc := ⟨.hbm, 157, rfl⟩
abbrev main_v63 : Ref sig .tc := ⟨.hbm, 158, rfl⟩
abbrev main_v64 : Ref sig .tc := ⟨.hbm, 159, rfl⟩
abbrev main_v65 : Ref sig .tc := ⟨.hbm, 160, rfl⟩
abbrev main_v66 : Ref sig .tc := ⟨.hbm, 161, rfl⟩
abbrev main_v67 : Ref sig .tc := ⟨.hbm, 162, rfl⟩
abbrev main_v68 : Ref sig .tc := ⟨.hbm, 163, rfl⟩
abbrev main_v69 : Ref sig .tc := ⟨.hbm, 164, rfl⟩
abbrev main_v70 : Ref sig .tc := ⟨.hbm, 165, rfl⟩
abbrev main_v71 : Ref sig .tc := ⟨.hbm, 166, rfl⟩
abbrev main_v72 : Ref sig .tc := ⟨.hbm, 167, rfl⟩
abbrev main_v73 : Ref sig .tc := ⟨.hbm, 168, rfl⟩
abbrev main_v74 : Ref sig .tc := ⟨.hbm, 169, rfl⟩
abbrev main_v75 : Ref sig .tc := ⟨.hbm, 170, rfl⟩
abbrev main_v76 : Ref sig .tc := ⟨.hbm, 171, rfl⟩
abbrev main_v77 : Ref sig .tc := ⟨.hbm, 172, rfl⟩
abbrev main_v78 : Ref sig .tc := ⟨.hbm, 173, rfl⟩
abbrev main_v79 : Ref sig .tc := ⟨.hbm, 174, rfl⟩
abbrev main_v80 : Ref sig .tc := ⟨.hbm, 175, rfl⟩
abbrev main_v81 : Ref sig .tc := ⟨.hbm, 176, rfl⟩
abbrev main_v82 : Ref sig .tc := ⟨.hbm, 177, rfl⟩
abbrev main_v83 : Ref sig .tc := ⟨.hbm, 178, rfl⟩
abbrev main_v84 : Ref sig .tc := ⟨.hbm, 179, rfl⟩
abbrev main_v85 : Ref sig .tc := ⟨.hbm, 180, rfl⟩
abbrev main_v86 : Ref sig .tc := ⟨.hbm, 181, rfl⟩
abbrev main_v87 : Ref sig .tc := ⟨.hbm, 182, rfl⟩
abbrev main_v88 : Ref sig .tc := ⟨.hbm, 183, rfl⟩
abbrev main_v89 : Ref sig .tc := ⟨.hbm, 184, rfl⟩
abbrev main_v90 : Ref sig .tc := ⟨.hbm, 185, rfl⟩
abbrev main_c_18 : Ref sig .tc := ⟨.hbm, 186, rfl⟩
abbrev main_v91 : Ref sig .tc := ⟨.hbm, 187, rfl⟩
abbrev main_v92 : Ref sig .tc := ⟨.hbm, 188, rfl⟩
abbrev main_v93 : Ref sig .tc := ⟨.hbm, 189, rfl⟩
abbrev main_v94 : Ref sig .tc := ⟨.hbm, 190, rfl⟩
abbrev main_v95 : Ref sig .tc := ⟨.hbm, 191, rfl⟩
abbrev main_v96 : Ref sig .tc := ⟨.hbm, 192, rfl⟩
abbrev main_v97 : Ref sig .tc := ⟨.hbm, 193, rfl⟩
abbrev main_v98 : Ref sig .tc := ⟨.hbm, 194, rfl⟩
abbrev main_v99 : Ref sig .tc := ⟨.hbm, 195, rfl⟩
abbrev main_v100 : Ref sig .tc := ⟨.hbm, 196, rfl⟩
abbrev main_v101 : Ref sig .tc := ⟨.hbm, 197, rfl⟩
abbrev main_cst_19 : Ref sig .tc := ⟨.hbm, 198, rfl⟩
abbrev main_v102 : Ref sig .tc := ⟨.hbm, 199, rfl⟩
abbrev main_v103 : Ref sig .tc := ⟨.hbm, 200, rfl⟩
abbrev main_v104 : Ref sig .tc := ⟨.hbm, 201, rfl⟩
abbrev main_v105 : Ref sig .tc := ⟨.hbm, 202, rfl⟩
abbrev main_v106 : Ref sig .tc := ⟨.hbm, 203, rfl⟩
abbrev main_v107 : Ref sig .tc := ⟨.hbm, 204, rfl⟩
abbrev main_call9_v0 : Ref sig .tc := ⟨.hbm, 205, rfl⟩
abbrev main_v108 : Ref sig .tc := ⟨.hbm, 206, rfl⟩
abbrev main_v109 : Ref sig .tc := ⟨.hbm, 207, rfl⟩
abbrev main_v110 : Ref sig .tc := ⟨.hbm, 208, rfl⟩
abbrev main_v111 : Ref sig .tc := ⟨.hbm, 209, rfl⟩
abbrev main_cst_20 : Ref sig .tc := ⟨.hbm, 210, rfl⟩
abbrev main_v112 : Ref sig .tc := ⟨.hbm, 211, rfl⟩
abbrev main_v113 : Ref sig .tc := ⟨.hbm, 212, rfl⟩
abbrev main_c_21 : Ref sig .tc := ⟨.hbm, 213, rfl⟩
abbrev main_v114 : Ref sig .tc := ⟨.hbm, 214, rfl⟩
abbrev main_v115 : Ref sig .tc := ⟨.hbm, 215, rfl⟩
abbrev main_v116 : Ref sig .tc := ⟨.hbm, 216, rfl⟩
abbrev main_v117 : Ref sig .tc := ⟨.hbm, 217, rfl⟩
abbrev main_v118 : Ref sig .tc := ⟨.hbm, 218, rfl⟩
abbrev main_c_22 : Ref sig .tc := ⟨.hbm, 219, rfl⟩
abbrev main_v119 : Ref sig .tc := ⟨.hbm, 220, rfl⟩
abbrev main_v120 : Ref sig .tc := ⟨.hbm, 221, rfl⟩
abbrev main_v121 : Ref sig .tc := ⟨.hbm, 222, rfl⟩
abbrev main_c_23 : Ref sig .tc := ⟨.hbm, 223, rfl⟩
abbrev main_v122 : Ref sig .tc := ⟨.hbm, 224, rfl⟩
abbrev main_v123 : Ref sig .tc := ⟨.hbm, 225, rfl⟩
abbrev main_v124 : Ref sig .tc := ⟨.hbm, 226, rfl⟩
abbrev main_v125 : Ref sig .tc := ⟨.hbm, 227, rfl⟩
abbrev main_v126 : Ref sig .tc := ⟨.hbm, 228, rfl⟩
abbrev main_v127 : Ref sig .tc := ⟨.hbm, 229, rfl⟩
abbrev main_v128 : Ref sig .tc := ⟨.hbm, 230, rfl⟩
abbrev main_v129 : Ref sig .tc := ⟨.hbm, 231, rfl⟩
abbrev main_v130 : Ref sig .tc := ⟨.hbm, 232, rfl⟩
abbrev main_v131 : Ref sig .tc := ⟨.hbm, 233, rfl⟩
abbrev main_v132 : Ref sig .tc := ⟨.hbm, 234, rfl⟩
abbrev main_v133 : Ref sig .tc := ⟨.hbm, 235, rfl⟩
abbrev main_v134 : Ref sig .tc := ⟨.hbm, 236, rfl⟩
abbrev main_v135 : Ref sig .tc := ⟨.hbm, 237, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x32x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![128], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S3x32x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S9x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S36x144 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S32x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S8x3x8192x32 : Shape := ⟨4, ![8, 3, 8192, 32]⟩
abbrev S1x4x5x5 : Shape := ⟨4, ![1, 4, 5, 5]⟩
abbrev S1 : Shape := ⟨1, ![1]⟩
abbrev S3 : Shape := ⟨1, ![3]⟩
abbrev S8x8192x32x3 : Shape := ⟨4, ![8, 8192, 32, 3]⟩
abbrev S_ : Shape := ⟨0, ![]⟩
abbrev S8x8192x32 : Shape := ⟨3, ![8, 8192, 32]⟩
abbrev S8x8192x1 : Shape := ⟨3, ![8, 8192, 1]⟩
abbrev S8x8192 : Shape := ⟨2, ![8, 8192]⟩
abbrev S8x8192x1x1 : Shape := ⟨4, ![8, 8192, 1, 1]⟩
abbrev S8x8192x1x3 : Shape := ⟨4, ![8, 8192, 1, 3]⟩
abbrev S8x8192x1x3x1 : Shape := ⟨5, ![8, 8192, 1, 3, 1]⟩
abbrev S1x1x1x1x1 : Shape := ⟨5, ![1, 1, 1, 1, 1]⟩
abbrev S8x8192x3 : Shape := ⟨3, ![8, 8192, 3]⟩
abbrev S65536x3 : Shape := ⟨2, ![65536, 3]⟩
abbrev S65536 : Shape := ⟨1, ![65536]⟩
abbrev S65536x1 : Shape := ⟨2, ![65536, 1]⟩
abbrev S65536x32x3 : Shape := ⟨3, ![65536, 32, 3]⟩
abbrev S1x65536 : Shape := ⟨2, ![1, 65536]⟩
abbrev S3x65536 : Shape := ⟨2, ![3, 65536]⟩
abbrev S65536x1x3 : Shape := ⟨3, ![65536, 1, 3]⟩
abbrev S65536x3x3 : Shape := ⟨3, ![65536, 3, 3]⟩
abbrev S3x3 : Shape := ⟨2, ![3, 3]⟩
abbrev S65536x1x1 : Shape := ⟨3, ![65536, 1, 1]⟩
abbrev S65536x32 : Shape := ⟨2, ![65536, 32]⟩
abbrev S65536x32x1 : Shape := ⟨3, ![65536, 32, 1]⟩
abbrev S65536x32x4 : Shape := ⟨3, ![65536, 32, 4]⟩
abbrev S2097152 : Shape := ⟨1, ![2097152]⟩
abbrev S2097152x4 : Shape := ⟨2, ![2097152, 4]⟩
abbrev S65536x6x6x4 : Shape := ⟨4, ![65536, 6, 6, 4]⟩
abbrev S2097152x1 : Shape := ⟨2, ![2097152, 1]⟩
abbrev S2097152x3 : Shape := ⟨2, ![2097152, 3]⟩
abbrev S65536x4x6x6 : Shape := ⟨4, ![65536, 4, 6, 6]⟩
abbrev S65536x4x10x6 : Shape := ⟨4, ![65536, 4, 10, 6]⟩
abbrev S65536x4x10x2 : Shape := ⟨4, ![65536, 4, 10, 2]⟩
abbrev S65536x4x10x10 : Shape := ⟨4, ![65536, 4, 10, 10]⟩
abbrev S65536x6x6 : Shape := ⟨3, ![65536, 6, 6]⟩
abbrev S1x4x1x1 : Shape := ⟨4, ![1, 4, 1, 1]⟩
abbrev S4 : Shape := ⟨1, ![4]⟩
abbrev S8x1x8192x32 : Shape := ⟨4, ![8, 1, 8192, 32]⟩

abbrev nBuf : Space → Nat
  | .hbm => 523
  | .vmem => 0
  | .smem => 0
  | _ => 0

abbrev hbmTy0_0 (i : Nat) : BufTy := match i % 128 with
  | 0 => ⟨S8x3x8192x32, .f32⟩
  | 1 => ⟨S1x4x5x5, .f32⟩
  | 2 => ⟨S1, .f32⟩
  | 3 => ⟨S3, .f32⟩
  | 4 => ⟨S3, .f32⟩
  | 5 => ⟨S3, .f32⟩
  | 6 => ⟨S8x8192x32x3, .f32⟩
  | 7 => ⟨S8x8192x32x3, .f32⟩
  | 8 => ⟨S_, .f32⟩
  | 9 => ⟨S8x8192x32, .f32⟩
  | 10 => ⟨S8x8192x32, .f32⟩
  | 11 => ⟨S8x8192x1, .f32⟩
  | 12 => ⟨S8x8192x1, .i32⟩
  | 13 => ⟨S8x8192, .i32⟩
  | 14 => ⟨S8x8192x1x1, .i32⟩
  | 15 => ⟨S8x8192x1x3, .i32⟩
  | 16 => ⟨S_, .i32⟩
  | 17 => ⟨S8x8192x1x3, .i32⟩
  | 18 => ⟨S8x8192x1x3, .i1⟩
  | 19 => ⟨S_, .i32⟩
  | 20 => ⟨S8x8192x1x3, .i32⟩
  | 21 => ⟨S8x8192x1x3, .i32⟩
  | 22 => ⟨S8x8192x1x3, .i32⟩
  | 23 => ⟨S8x8192x1x3x1, .i32⟩
  | 24 => ⟨S1, .i32⟩
  | 25 => ⟨S_, .i32⟩
  | 26 => ⟨S8x8192x1x3x1, .i32⟩
  | 27 => ⟨S8x8192x1x3x1, .i1⟩
  | 28 => ⟨S1x1x1x1x1, .i32⟩
  | 29 => ⟨S8x8192x1x3x1, .i32⟩
  | 30 => ⟨S8x8192x1x3x1, .i1⟩
  | 31 => ⟨S8x8192x1x3x1, .i1⟩
  | 32 => ⟨S_, .i1⟩
  | 33 => ⟨S8x8192x1x3, .i1⟩
  | 34 => ⟨S8x8192x1x3, .f32⟩
  | 35 => ⟨S_, .f32⟩
  | 36 => ⟨S8x8192x1x3, .f32⟩
  | 37 => ⟨S8x8192x1x3, .f32⟩
  | 38 => ⟨S8x8192x3, .f32⟩
  | 39 => ⟨S65536x3, .f32⟩
  | 40 => ⟨S65536x3, .f32⟩
  | 41 => ⟨S_, .f32⟩
  | 42 => ⟨S65536, .f32⟩
  | 43 => ⟨S65536x1, .f32⟩
  | 44 => ⟨S65536x1, .f32⟩
  | 45 => ⟨S_, .f32⟩
  | 46 => ⟨S65536x1, .f32⟩
  | 47 => ⟨S65536x1, .f32⟩
  | 48 => ⟨S65536x3, .f32⟩
  | 49 => ⟨S65536x3, .f32⟩
  | 50 => ⟨S65536x32x3, .f32⟩
  | 51 => ⟨S65536x3, .f32⟩
  | 52 => ⟨S65536x3, .f32⟩
  | 53 => ⟨S_, .f32⟩
  | 54 => ⟨S65536, .f32⟩
  | 55 => ⟨S65536x1, .f32⟩
  | 56 => ⟨S65536x1, .f32⟩
  | 57 => ⟨S_, .f32⟩
  | 58 => ⟨S65536x1, .f32⟩
  | 59 => ⟨S65536x1, .f32⟩
  | 60 => ⟨S65536x3, .f32⟩
  | 61 => ⟨S65536x3, .f32⟩
  | 62 => ⟨S65536x1, .f32⟩
  | 63 => ⟨S65536, .f32⟩
  | 64 => ⟨S65536x1, .f32⟩
  | 65 => ⟨S65536, .f32⟩
  | 66 => ⟨S65536x1, .f32⟩
  | 67 => ⟨S65536, .f32⟩
  | 68 => ⟨S65536x1, .f32⟩
  | 69 => ⟨S65536, .f32⟩
  | 70 => ⟨S65536x1, .f32⟩
  | 71 => ⟨S65536, .f32⟩
  | 72 => ⟨S65536x1, .f32⟩
  | 73 => ⟨S65536, .f32⟩
  | 74 => ⟨S65536, .f32⟩
  | 75 => ⟨S65536, .f32⟩
  | 76 => ⟨S65536, .f32⟩
  | 77 => ⟨S65536, .f32⟩
  | 78 => ⟨S65536, .f32⟩
  | 79 => ⟨S65536, .f32⟩
  | 80 => ⟨S65536, .f32⟩
  | 81 => ⟨S65536, .f32⟩
  | 82 => ⟨S65536, .f32⟩
  | 83 => ⟨S1x65536, .f32⟩
  | 84 => ⟨S1x65536, .f32⟩
  | 85 => ⟨S1x65536, .f32⟩
  | 86 => ⟨S3x65536, .f32⟩
  | 87 => ⟨S65536x3, .f32⟩
  | 88 => ⟨S65536x3, .f32⟩
  | 89 => ⟨S_, .f32⟩
  | 90 => ⟨S65536, .f32⟩
  | 91 => ⟨S65536x1, .f32⟩
  | 92 => ⟨S65536x1, .f32⟩
  | 93 => ⟨S65536x3, .f32⟩
  | 94 => ⟨S_, .f32⟩
  | 95 => ⟨S65536, .f32⟩
  | 96 => ⟨S65536x1, .f32⟩
  | 97 => ⟨S65536, .f32⟩
  | 98 => ⟨S_, .f32⟩
  | 99 => ⟨S65536, .f32⟩
  | 100 => ⟨S65536, .i1⟩
  | 101 => ⟨S65536, .f32⟩
  | 102 => ⟨S_, .f32⟩
  | 103 => ⟨S65536, .f32⟩
  | 104 => ⟨S65536, .i1⟩
  | 105 => ⟨S65536, .i1⟩
  | 106 => ⟨S65536, .f32⟩
  | 107 => ⟨S_, .f32⟩
  | 108 => ⟨S65536, .f32⟩
  | 109 => ⟨S65536, .i1⟩
  | 110 => ⟨S65536, .f32⟩
  | 111 => ⟨S_, .f32⟩
  | 112 => ⟨S65536, .f32⟩
  | 113 => ⟨S65536, .i1⟩
  | 114 => ⟨S65536, .i1⟩
  | 115 => ⟨S65536x3, .f32⟩
  | 116 => ⟨S65536x3, .f32⟩
  | 117 => ⟨S65536x1, .f32⟩
  | 118 => ⟨S65536x1, .f32⟩
  | 119 => ⟨S_, .f32⟩
  | 120 => ⟨S65536x1, .f32⟩
  | 121 => ⟨S65536x1, .i1⟩
  | 122 => ⟨S65536x3, .i1⟩
  | 123 => ⟨S65536x3, .f32⟩
  | 124 => ⟨S65536x1, .f32⟩
  | 125 => ⟨S65536, .f32⟩
  | 126 => ⟨S65536x1, .f32⟩
  | 127 => ⟨S65536, .f32⟩
  | _ => ⟨S8x3x8192x32, .f32⟩

abbrev hbmTy0_1 (i : Nat) : BufTy := match i % 128 with
  | 0 => ⟨S65536x1, .f32⟩
  | 1 => ⟨S65536, .f32⟩
  | 2 => ⟨S65536x1, .f32⟩
  | 3 => ⟨S65536, .f32⟩
  | 4 => ⟨S65536x1, .f32⟩
  | 5 => ⟨S65536, .f32⟩
  | 6 => ⟨S65536x1, .f32⟩
  | 7 => ⟨S65536, .f32⟩
  | 8 => ⟨S65536, .f32⟩
  | 9 => ⟨S65536, .f32⟩
  | 10 => ⟨S65536, .f32⟩
  | 11 => ⟨S65536, .f32⟩
  | 12 => ⟨S65536, .f32⟩
  | 13 => ⟨S65536, .f32⟩
  | 14 => ⟨S65536, .f32⟩
  | 15 => ⟨S65536, .f32⟩
  | 16 => ⟨S65536, .f32⟩
  | 17 => ⟨S1x65536, .f32⟩
  | 18 => ⟨S1x65536, .f32⟩
  | 19 => ⟨S1x65536, .f32⟩
  | 20 => ⟨S3x65536, .f32⟩
  | 21 => ⟨S65536x3, .f32⟩
  | 22 => ⟨S65536x3, .f32⟩
  | 23 => ⟨S_, .f32⟩
  | 24 => ⟨S65536, .f32⟩
  | 25 => ⟨S65536x1, .f32⟩
  | 26 => ⟨S65536x1, .f32⟩
  | 27 => ⟨S_, .f32⟩
  | 28 => ⟨S65536x1, .f32⟩
  | 29 => ⟨S65536x1, .f32⟩
  | 30 => ⟨S65536x3, .f32⟩
  | 31 => ⟨S65536x3, .f32⟩
  | 32 => ⟨S65536x1, .i1⟩
  | 33 => ⟨S65536x3, .i1⟩
  | 34 => ⟨S65536x3, .f32⟩
  | 35 => ⟨S65536x3, .f32⟩
  | 36 => ⟨S_, .f32⟩
  | 37 => ⟨S65536, .f32⟩
  | 38 => ⟨S65536x1, .f32⟩
  | 39 => ⟨S65536x1, .f32⟩
  | 40 => ⟨S_, .f32⟩
  | 41 => ⟨S65536x1, .f32⟩
  | 42 => ⟨S65536x1, .f32⟩
  | 43 => ⟨S65536x3, .f32⟩
  | 44 => ⟨S65536x3, .f32⟩
  | 45 => ⟨S65536x1, .f32⟩
  | 46 => ⟨S65536, .f32⟩
  | 47 => ⟨S_, .f32⟩
  | 48 => ⟨S65536, .f32⟩
  | 49 => ⟨S65536x1, .f32⟩
  | 50 => ⟨S65536, .f32⟩
  | 51 => ⟨S65536, .f32⟩
  | 52 => ⟨S65536x1, .f32⟩
  | 53 => ⟨S65536, .f32⟩
  | 54 => ⟨S65536x1, .f32⟩
  | 55 => ⟨S65536x1, .f32⟩
  | 56 => ⟨S65536x1, .f32⟩
  | 57 => ⟨S65536x3, .f32⟩
  | 58 => ⟨S65536x1, .f32⟩
  | 59 => ⟨S65536, .f32⟩
  | 60 => ⟨S65536x1, .f32⟩
  | 61 => ⟨S65536, .f32⟩
  | 62 => ⟨S65536, .f32⟩
  | 63 => ⟨S65536x1, .f32⟩
  | 64 => ⟨S65536x1, .f32⟩
  | 65 => ⟨S65536x1, .f32⟩
  | 66 => ⟨S65536x3, .f32⟩
  | 67 => ⟨S65536x1, .f32⟩
  | 68 => ⟨S65536, .f32⟩
  | 69 => ⟨S65536, .f32⟩
  | 70 => ⟨S65536x1, .f32⟩
  | 71 => ⟨S65536, .f32⟩
  | 72 => ⟨S65536x1, .f32⟩
  | 73 => ⟨S65536x1, .f32⟩
  | 74 => ⟨S65536x1, .f32⟩
  | 75 => ⟨S65536x3, .f32⟩
  | 76 => ⟨S65536x1x3, .f32⟩
  | 77 => ⟨S65536x1x3, .f32⟩
  | 78 => ⟨S65536x1x3, .f32⟩
  | 79 => ⟨S65536x3x3, .f32⟩
  | 80 => ⟨S3x3, .i32⟩
  | 81 => ⟨S3x3, .i32⟩
  | 82 => ⟨S_, .i32⟩
  | 83 => ⟨S3x3, .i32⟩
  | 84 => ⟨S3x3, .i32⟩
  | 85 => ⟨S3x3, .i1⟩
  | 86 => ⟨S3x3, .f32⟩
  | 87 => ⟨S65536x3x3, .f32⟩
  | 88 => ⟨S65536x1x1, .f32⟩
  | 89 => ⟨S65536x3x3, .f32⟩
  | 90 => ⟨S65536x3x3, .f32⟩
  | 91 => ⟨S65536x3x3, .f32⟩
  | 92 => ⟨S65536x3x3, .f32⟩
  | 93 => ⟨S65536x1x1, .f32⟩
  | 94 => ⟨S_, .f32⟩
  | 95 => ⟨S65536x1x1, .f32⟩
  | 96 => ⟨S65536x1x1, .f32⟩
  | 97 => ⟨S65536x3x3, .f32⟩
  | 98 => ⟨S65536x3x3, .f32⟩
  | 99 => ⟨S65536x3x3, .f32⟩
  | 100 => ⟨S65536x1x1, .i1⟩
  | 101 => ⟨S65536x3x3, .i1⟩
  | 102 => ⟨S65536x3x3, .f32⟩
  | 103 => ⟨S65536x3x3, .f32⟩
  | 104 => ⟨S65536x32x3, .f32⟩
  | 105 => ⟨S65536x32x3, .f32⟩
  | 106 => ⟨S_, .f32⟩
  | 107 => ⟨S65536x32, .f32⟩
  | 108 => ⟨S65536x32x1, .f32⟩
  | 109 => ⟨S65536x32x1, .f32⟩
  | 110 => ⟨S_, .f32⟩
  | 111 => ⟨S_, .f32⟩
  | 112 => ⟨S65536x32x1, .f32⟩
  | 113 => ⟨S65536x32x1, .f32⟩
  | 114 => ⟨S65536x32x1, .f32⟩
  | 115 => ⟨S65536x32x1, .f32⟩
  | 116 => ⟨S_, .f32⟩
  | 117 => ⟨S_, .f32⟩
  | 118 => ⟨S_, .f32⟩
  | 119 => ⟨S65536x32x1, .f32⟩
  | 120 => ⟨S65536x32x1, .f32⟩
  | 121 => ⟨S_, .f32⟩
  | 122 => ⟨S65536x32x1, .f32⟩
  | 123 => ⟨S65536x32x1, .f32⟩
  | 124 => ⟨S65536x32x1, .f32⟩
  | 125 => ⟨S65536x32x1, .f32⟩
  | 126 => ⟨S65536x32x1, .f32⟩
  | 127 => ⟨S65536x32x1, .f32⟩
  | _ => ⟨S8x3x8192x32, .f32⟩

abbrev hbmTy0_2 (i : Nat) : BufTy := match i % 128 with
  | 0 => ⟨S_, .f32⟩
  | 1 => ⟨S65536x32x1, .f32⟩
  | 2 => ⟨S65536x32x1, .f32⟩
  | 3 => ⟨S_, .f32⟩
  | 4 => ⟨S_, .f32⟩
  | 5 => ⟨S65536x32x1, .f32⟩
  | 6 => ⟨S65536x32x1, .f32⟩
  | 7 => ⟨S_, .f32⟩
  | 8 => ⟨S65536x32x1, .f32⟩
  | 9 => ⟨S65536x32x1, .i1⟩
  | 10 => ⟨S_, .f32⟩
  | 11 => ⟨S65536x32x1, .f32⟩
  | 12 => ⟨S65536x32x1, .i1⟩
  | 13 => ⟨S_, .f32⟩
  | 14 => ⟨S_, .i1⟩
  | 15 => ⟨S65536x32x1, .i1⟩
  | 16 => ⟨S65536x32x1, .i1⟩
  | 17 => ⟨S65536x32x1, .i1⟩
  | 18 => ⟨S65536x32x1, .f32⟩
  | 19 => ⟨S65536x32x1, .f32⟩
  | 20 => ⟨S65536x32x1, .f32⟩
  | 21 => ⟨S_, .f32⟩
  | 22 => ⟨S65536x32x1, .f32⟩
  | 23 => ⟨S65536x32x1, .f32⟩
  | 24 => ⟨S65536x32x1, .f32⟩
  | 25 => ⟨S65536x32x1, .i32⟩
  | 26 => ⟨S_, .i32⟩
  | 27 => ⟨S_, .i32⟩
  | 28 => ⟨S_, .i32⟩
  | 29 => ⟨S65536x32x1, .i32⟩
  | 30 => ⟨S65536x32x1, .i32⟩
  | 31 => ⟨S_, .i32⟩
  | 32 => ⟨S65536x32x1, .i32⟩
  | 33 => ⟨S65536x32x1, .i32⟩
  | 34 => ⟨S_, .f32⟩
  | 35 => ⟨S65536x32x1, .f32⟩
  | 36 => ⟨S65536x32x1, .f32⟩
  | 37 => ⟨S65536x32x1, .f32⟩
  | 38 => ⟨S65536x32x1, .i32⟩
  | 39 => ⟨S_, .i32⟩
  | 40 => ⟨S_, .i32⟩
  | 41 => ⟨S_, .i32⟩
  | 42 => ⟨S65536x32x1, .i32⟩
  | 43 => ⟨S65536x32x1, .i32⟩
  | 44 => ⟨S_, .i32⟩
  | 45 => ⟨S65536x32x1, .i32⟩
  | 46 => ⟨S65536x32x1, .i32⟩
  | 47 => ⟨S_, .f32⟩
  | 48 => ⟨S65536x1, .f32⟩
  | 49 => ⟨S65536x1x1, .f32⟩
  | 50 => ⟨S_, .f32⟩
  | 51 => ⟨S65536x1x1, .f32⟩
  | 52 => ⟨S65536x1x1, .f32⟩
  | 53 => ⟨S_, .f32⟩
  | 54 => ⟨S65536x1x1, .f32⟩
  | 55 => ⟨S65536x1x1, .f32⟩
  | 56 => ⟨S65536x32x1, .f32⟩
  | 57 => ⟨S65536x32x1, .f32⟩
  | 58 => ⟨S_, .f32⟩
  | 59 => ⟨S65536x32x1, .f32⟩
  | 60 => ⟨S65536x32x1, .f32⟩
  | 61 => ⟨S_, .f32⟩
  | 62 => ⟨S65536x32x1, .f32⟩
  | 63 => ⟨S65536x32x1, .f32⟩
  | 64 => ⟨S_, .f32⟩
  | 65 => ⟨S65536x32x1, .f32⟩
  | 66 => ⟨S65536x32x1, .f32⟩
  | 67 => ⟨S65536x32x4, .f32⟩
  | 68 => ⟨S65536, .i32⟩
  | 69 => ⟨S65536x32, .i32⟩
  | 70 => ⟨S2097152, .i32⟩
  | 71 => ⟨S2097152, .i32⟩
  | 72 => ⟨S2097152, .i32⟩
  | 73 => ⟨S2097152x4, .f32⟩
  | 74 => ⟨S_, .f32⟩
  | 75 => ⟨S65536x6x6x4, .f32⟩
  | 76 => ⟨S_, .i32⟩
  | 77 => ⟨S2097152, .i32⟩
  | 78 => ⟨S2097152, .i1⟩
  | 79 => ⟨S_, .i32⟩
  | 80 => ⟨S2097152, .i32⟩
  | 81 => ⟨S2097152, .i32⟩
  | 82 => ⟨S2097152, .i32⟩
  | 83 => ⟨S_, .i32⟩
  | 84 => ⟨S2097152, .i32⟩
  | 85 => ⟨S2097152, .i1⟩
  | 86 => ⟨S_, .i32⟩
  | 87 => ⟨S2097152, .i32⟩
  | 88 => ⟨S2097152, .i32⟩
  | 89 => ⟨S2097152, .i32⟩
  | 90 => ⟨S_, .i32⟩
  | 91 => ⟨S2097152, .i32⟩
  | 92 => ⟨S2097152, .i1⟩
  | 93 => ⟨S_, .i32⟩
  | 94 => ⟨S2097152, .i32⟩
  | 95 => ⟨S2097152, .i32⟩
  | 96 => ⟨S2097152, .i32⟩
  | 97 => ⟨S2097152x1, .i32⟩
  | 98 => ⟨S2097152x1, .i32⟩
  | 99 => ⟨S2097152x1, .i32⟩
  | 100 => ⟨S2097152x3, .i32⟩
  | 101 => ⟨S65536x6x6x4, .f32⟩
  | 102 => ⟨S65536x4x6x6, .f32⟩
  | 103 => ⟨S_, .i32⟩
  | 104 => ⟨S_, .f32⟩
  | 105 => ⟨S65536x4x10x6, .f32⟩
  | 106 => ⟨S65536x4x10x2, .f32⟩
  | 107 => ⟨S65536x4x10x2, .f32⟩
  | 108 => ⟨S65536x4x10x10, .f32⟩
  | 109 => ⟨S_, .f32⟩
  | 110 => ⟨S65536x6x6, .f32⟩
  | 111 => ⟨S65536x4x6x6, .f32⟩
  | 112 => ⟨S1x4x1x1, .f32⟩
  | 113 => ⟨S4, .f32⟩
  | 114 => ⟨S65536x6x6, .f32⟩
  | 115 => ⟨S65536x6x6, .f32⟩
  | 116 => ⟨S65536x4x6x6, .f32⟩
  | 117 => ⟨S1x4x1x1, .f32⟩
  | 118 => ⟨S4, .f32⟩
  | 119 => ⟨S65536x6x6, .f32⟩
  | 120 => ⟨S65536x6x6, .f32⟩
  | 121 => ⟨S65536x4x6x6, .f32⟩
  | 122 => ⟨S1x4x1x1, .f32⟩
  | 123 => ⟨S4, .f32⟩
  | 124 => ⟨S65536x6x6, .f32⟩
  | 125 => ⟨S65536x6x6, .f32⟩
  | 126 => ⟨S65536x4x6x6, .f32⟩
  | 127 => ⟨S1x4x1x1, .f32⟩
  | _ => ⟨S8x3x8192x32, .f32⟩

abbrev hbmTy0_3 (i : Nat) : BufTy := match i % 128 with
  | 0 => ⟨S4, .f32⟩
  | 1 => ⟨S65536x6x6, .f32⟩
  | 2 => ⟨S65536x6x6, .f32⟩
  | 3 => ⟨S65536x4x6x6, .f32⟩
  | 4 => ⟨S1x4x1x1, .f32⟩
  | 5 => ⟨S4, .f32⟩
  | 6 => ⟨S65536x6x6, .f32⟩
  | 7 => ⟨S65536x6x6, .f32⟩
  | 8 => ⟨S65536x4x6x6, .f32⟩
  | 9 => ⟨S1x4x1x1, .f32⟩
  | 10 => ⟨S4, .f32⟩
  | 11 => ⟨S65536x6x6, .f32⟩
  | 12 => ⟨S65536x6x6, .f32⟩
  | 13 => ⟨S65536x4x6x6, .f32⟩
  | 14 => ⟨S1x4x1x1, .f32⟩
  | 15 => ⟨S4, .f32⟩
  | 16 => ⟨S65536x6x6, .f32⟩
  | 17 => ⟨S65536x6x6, .f32⟩
  | 18 => ⟨S65536x4x6x6, .f32⟩
  | 19 => ⟨S1x4x1x1, .f32⟩
  | 20 => ⟨S4, .f32⟩
  | 21 => ⟨S65536x6x6, .f32⟩
  | 22 => ⟨S65536x6x6, .f32⟩
  | 23 => ⟨S65536x4x6x6, .f32⟩
  | 24 => ⟨S1x4x1x1, .f32⟩
  | 25 => ⟨S4, .f32⟩
  | 26 => ⟨S65536x6x6, .f32⟩
  | 27 => ⟨S65536x6x6, .f32⟩
  | 28 => ⟨S65536x4x6x6, .f32⟩
  | 29 => ⟨S1x4x1x1, .f32⟩
  | 30 => ⟨S4, .f32⟩
  | 31 => ⟨S65536x6x6, .f32⟩
  | 32 => ⟨S65536x6x6, .f32⟩
  | 33 => ⟨S65536x4x6x6, .f32⟩
  | 34 => ⟨S1x4x1x1, .f32⟩
  | 35 => ⟨S4, .f32⟩
  | 36 => ⟨S65536x6x6, .f32⟩
  | 37 => ⟨S65536x6x6, .f32⟩
  | 38 => ⟨S65536x4x6x6, .f32⟩
  | 39 => ⟨S1x4x1x1, .f32⟩
  | 40 => ⟨S4, .f32⟩
  | 41 => ⟨S65536x6x6, .f32⟩
  | 42 => ⟨S65536x6x6, .f32⟩
  | 43 => ⟨S65536x4x6x6, .f32⟩
  | 44 => ⟨S1x4x1x1, .f32⟩
  | 45 => ⟨S4, .f32⟩
  | 46 => ⟨S65536x6x6, .f32⟩
  | 47 => ⟨S65536x6x6, .f32⟩
  | 48 => ⟨S65536x4x6x6, .f32⟩
  | 49 => ⟨S1x4x1x1, .f32⟩
  | 50 => ⟨S4, .f32⟩
  | 51 => ⟨S65536x6x6, .f32⟩
  | 52 => ⟨S65536x6x6, .f32⟩
  | 53 => ⟨S65536x4x6x6, .f32⟩
  | 54 => ⟨S1x4x1x1, .f32⟩
  | 55 => ⟨S4, .f32⟩
  | 56 => ⟨S65536x6x6, .f32⟩
  | 57 => ⟨S65536x6x6, .f32⟩
  | 58 => ⟨S65536x4x6x6, .f32⟩
  | 59 => ⟨S1x4x1x1, .f32⟩
  | 60 => ⟨S4, .f32⟩
  | 61 => ⟨S65536x6x6, .f32⟩
  | 62 => ⟨S65536x6x6, .f32⟩
  | 63 => ⟨S65536x4x6x6, .f32⟩
  | 64 => ⟨S1x4x1x1, .f32⟩
  | 65 => ⟨S4, .f32⟩
  | 66 => ⟨S65536x6x6, .f32⟩
  | 67 => ⟨S65536x6x6, .f32⟩
  | 68 => ⟨S65536x4x6x6, .f32⟩
  | 69 => ⟨S1x4x1x1, .f32⟩
  | 70 => ⟨S4, .f32⟩
  | 71 => ⟨S65536x6x6, .f32⟩
  | 72 => ⟨S65536x6x6, .f32⟩
  | 73 => ⟨S65536x4x6x6, .f32⟩
  | 74 => ⟨S1x4x1x1, .f32⟩
  | 75 => ⟨S4, .f32⟩
  | 76 => ⟨S65536x6x6, .f32⟩
  | 77 => ⟨S65536x6x6, .f32⟩
  | 78 => ⟨S65536x4x6x6, .f32⟩
  | 79 => ⟨S1x4x1x1, .f32⟩
  | 80 => ⟨S4, .f32⟩
  | 81 => ⟨S65536x6x6, .f32⟩
  | 82 => ⟨S65536x6x6, .f32⟩
  | 83 => ⟨S65536x4x6x6, .f32⟩
  | 84 => ⟨S1x4x1x1, .f32⟩
  | 85 => ⟨S4, .f32⟩
  | 86 => ⟨S65536x6x6, .f32⟩
  | 87 => ⟨S65536x6x6, .f32⟩
  | 88 => ⟨S65536x4x6x6, .f32⟩
  | 89 => ⟨S1x4x1x1, .f32⟩
  | 90 => ⟨S4, .f32⟩
  | 91 => ⟨S65536x6x6, .f32⟩
  | 92 => ⟨S65536x6x6, .f32⟩
  | 93 => ⟨S65536x4x6x6, .f32⟩
  | 94 => ⟨S1x4x1x1, .f32⟩
  | 95 => ⟨S4, .f32⟩
  | 96 => ⟨S65536x6x6, .f32⟩
  | 97 => ⟨S65536x6x6, .f32⟩
  | 98 => ⟨S65536x4x6x6, .f32⟩
  | 99 => ⟨S1x4x1x1, .f32⟩
  | 100 => ⟨S4, .f32⟩
  | 101 => ⟨S65536x6x6, .f32⟩
  | 102 => ⟨S65536x6x6, .f32⟩
  | 103 => ⟨S65536x4x6x6, .f32⟩
  | 104 => ⟨S1x4x1x1, .f32⟩
  | 105 => ⟨S4, .f32⟩
  | 106 => ⟨S65536x6x6, .f32⟩
  | 107 => ⟨S65536x6x6, .f32⟩
  | 108 => ⟨S_, .f32⟩
  | 109 => ⟨S65536x6x6, .f32⟩
  | 110 => ⟨S65536x6x6, .f32⟩
  | 111 => ⟨S_, .i32⟩
  | 112 => ⟨S2097152, .i32⟩
  | 113 => ⟨S2097152, .i1⟩
  | 114 => ⟨S_, .i32⟩
  | 115 => ⟨S2097152, .i32⟩
  | 116 => ⟨S2097152, .i32⟩
  | 117 => ⟨S2097152, .i32⟩
  | 118 => ⟨S_, .i32⟩
  | 119 => ⟨S2097152, .i32⟩
  | 120 => ⟨S2097152, .i1⟩
  | 121 => ⟨S_, .i32⟩
  | 122 => ⟨S2097152, .i32⟩
  | 123 => ⟨S2097152, .i32⟩
  | 124 => ⟨S2097152, .i32⟩
  | 125 => ⟨S_, .i32⟩
  | 126 => ⟨S2097152, .i32⟩
  | 127 => ⟨S2097152, .i1⟩
  | _ => ⟨S8x3x8192x32, .f32⟩

abbrev hbmTy0_4 (i : Nat) : BufTy := match i % 128 with
  | 0 => ⟨S_, .i32⟩
  | 1 => ⟨S2097152, .i32⟩
  | 2 => ⟨S2097152, .i32⟩
  | 3 => ⟨S2097152, .i32⟩
  | 4 => ⟨S2097152x1, .i32⟩
  | 5 => ⟨S2097152x1, .i32⟩
  | 6 => ⟨S2097152x1, .i32⟩
  | 7 => ⟨S2097152x3, .i32⟩
  | 8 => ⟨S2097152, .f32⟩
  | 9 => ⟨S8x8192x32, .f32⟩
  | 10 => ⟨S8x1x8192x32, .f32⟩
  | _ => ⟨S8x3x8192x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8x3x8192x32, .f32⟩

abbrev bufTy : (tb : Table) → Fin (tcTables nBuf tb) → BufTy
  | .hbm, ⟨i, _⟩ => hbmTy i
  | _, _ => ⟨S8x3x8192x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_v0 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_v1 : Ref sig .tc := ⟨.hbm, 10, rfl⟩
abbrev main_values : Ref sig .tc := ⟨.hbm, 11, rfl⟩
abbrev main_indices : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call1_c : Ref sig .tc := ⟨.hbm, 16, rfl⟩
abbrev main_call1_v0 : Ref sig .tc := ⟨.hbm, 17, rfl⟩
abbrev main_call1_v1 : Ref sig .tc := ⟨.hbm, 18, rfl⟩
abbrev main_call1_c_0 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_v5 : Ref sig .tc := ⟨.hbm, 23, rfl⟩
abbrev main_call1_c_1 : Ref sig .tc := ⟨.hbm, 24, rfl⟩
abbrev main_call1_c_2 : Ref sig .tc := ⟨.hbm, 25, rfl⟩
abbrev main_call1_v6 : Ref sig .tc := ⟨.hbm, 26, rfl⟩
abbrev main_call1_v7 : Ref sig .tc := ⟨.hbm, 27, rfl⟩
abbrev main_call1_v8 : Ref sig .tc := ⟨.hbm, 28, rfl⟩
abbrev main_call1_v9 : Ref sig .tc := ⟨.hbm, 29, rfl⟩
abbrev main_call1_v10 : Ref sig .tc := ⟨.hbm, 30, rfl⟩
abbrev main_call1_v11 : Ref sig .tc := ⟨.hbm, 31, rfl⟩
abbrev main_call1_c_3 : Ref sig .tc := ⟨.hbm, 32, rfl⟩
abbrev main_call1_v12 : Ref sig .tc := ⟨.hbm, 33, rfl⟩
abbrev main_call1_v13 : Ref sig .tc := ⟨.hbm, 34, rfl⟩
abbrev main_call1_cst : Ref sig .tc := ⟨.hbm, 35, rfl⟩
abbrev main_call1_v14 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_call2_v0 : Ref sig .tc := ⟨.hbm, 40, rfl⟩
abbrev main_call2_cst : Ref sig .tc := ⟨.hbm, 41, rfl⟩
abbrev main_call2_v1 : Ref sig .tc := ⟨.hbm, 42, rfl⟩
abbrev main_call2_v2 : Ref sig .tc := ⟨.hbm, 43, rfl⟩
abbrev main_v8 : Ref sig .tc := ⟨.hbm, 44, rfl⟩
abbrev main_cst_2 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_call3_v0 : Ref sig .tc := ⟨.hbm, 52, rfl⟩
abbrev main_call3_cst : Ref sig .tc := ⟨.hbm, 53, rfl⟩
abbrev main_call3_v1 : Ref sig .tc := ⟨.hbm, 54, rfl⟩
abbrev main_call3_v2 : Ref sig .tc := ⟨.hbm, 55, rfl⟩
abbrev main_v15 : Ref sig .tc := ⟨.hbm, 56, rfl⟩
abbrev main_cst_3 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_call4_v0 : Ref sig .tc := ⟨.hbm, 88, rfl⟩
abbrev main_call4_cst : Ref sig .tc := ⟨.hbm, 89, rfl⟩
abbrev main_call4_v1 : Ref sig .tc := ⟨.hbm, 90, rfl⟩
abbrev main_call4_v2 : Ref sig .tc := ⟨.hbm, 91, rfl⟩
abbrev main_v46 : Ref sig .tc := ⟨.hbm, 92, rfl⟩
abbrev main_v47 : Ref sig .tc := ⟨.hbm, 93, rfl⟩
abbrev main_cst_4 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_cst_5 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_cst_6 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_cst_7 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_cst_8 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_cst_9 : Ref sig .tc := ⟨.hbm, 119, rfl⟩
abbrev main_v68 : Ref sig .tc := ⟨.hbm, 120, rfl⟩
abbrev main_v69 : Ref sig .tc := ⟨.hbm, 121, rfl⟩
abbrev main_call5_v0 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_call6_v0 : Ref sig .tc := ⟨.hbm, 150, rfl⟩
abbrev main_call6_cst : Ref sig .tc := ⟨.hbm, 151, rfl⟩
abbrev main_call6_v1 : Ref sig .tc := ⟨.hbm, 152, rfl⟩
abbrev main_call6_v2 : Ref sig .tc := ⟨.hbm, 153, rfl⟩
abbrev main_v97 : Ref sig .tc := ⟨.hbm, 154, rfl⟩
abbrev main_cst_10 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_call7_v0 : Ref sig .tc := ⟨.hbm, 161, rfl⟩
abbrev main_v103 : Ref sig .tc := ⟨.hbm, 162, rfl⟩
abbrev main_call8_v0 : Ref sig .tc := ⟨.hbm, 163, rfl⟩
abbrev main_call8_cst : Ref sig .tc := ⟨.hbm, 164, rfl⟩
abbrev main_call8_v1 : Ref sig .tc := ⟨.hbm, 165, rfl⟩
abbrev main_call8_v2 : Ref sig .tc := ⟨.hbm, 166, rfl⟩
abbrev main_v104 : Ref sig .tc := ⟨.hbm, 167, rfl⟩
abbrev main_cst_11 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_cst_12 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_v139 : Ref sig .tc := ⟨.hbm, 204, rfl⟩
abbrev main_v140 : Ref sig .tc := ⟨.hbm, 205, rfl⟩
abbrev main_v141 : Ref sig .tc := ⟨.hbm, 206, rfl⟩
abbrev main_v142 : Ref sig .tc := ⟨.hbm, 207, rfl⟩
abbrev main_v143 : Ref sig .tc := ⟨.hbm, 208, rfl⟩
abbrev main_v144 : Ref sig .tc := ⟨.hbm, 209, rfl⟩
abbrev main_c : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_cst_13 : Ref sig .tc := ⟨.hbm, 222, rfl⟩
abbrev main_v156 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_call9_v0 : Ref sig .tc := ⟨.hbm, 229, rfl⟩
abbrev main_v162 : Ref sig .tc := ⟨.hbm, 230, rfl⟩
abbrev main_v163 : Ref sig .tc := ⟨.hbm, 231, rfl⟩
abbrev main_v164 : Ref sig .tc := ⟨.hbm, 232, rfl⟩
abbrev main_call10_v0 : Ref sig .tc := ⟨.hbm, 233, rfl⟩
abbrev main_call10_cst : Ref sig .tc := ⟨.hbm, 234, rfl⟩
abbrev main_call10_v1 : Ref sig .tc := ⟨.hbm, 235, rfl⟩
abbrev main_call10_v2 : Ref sig .tc := ⟨.hbm, 236, rfl⟩
abbrev main_v165 : Ref sig .tc := ⟨.hbm, 237, rfl⟩
abbrev main_cst_14 : Ref sig .tc := ⟨.hbm, 238, rfl⟩
abbrev main_call11_v0 : Ref sig .tc := ⟨.hbm, 239, rfl⟩
abbrev main_call11_v1 : Ref sig .tc := ⟨.hbm, 240, rfl⟩
abbrev main_v166 : Ref sig .tc := ⟨.hbm, 241, rfl⟩
abbrev main_v167 : Ref sig .tc := ⟨.hbm, 242, rfl⟩
abbrev main_v168 : Ref sig .tc := ⟨.hbm, 243, rfl⟩
abbrev main_cst_15 : Ref sig .tc := ⟨.hbm, 244, rfl⟩
abbrev main_cst_16 : Ref sig .tc := ⟨.hbm, 245, rfl⟩
abbrev main_call12_v0 : Ref sig .tc := ⟨.hbm, 246, rfl⟩
abbrev main_call12_v1 : Ref sig .tc := ⟨.hbm, 247, rfl⟩
abbrev main_call12_v2 : Ref sig .tc := ⟨.hbm, 248, rfl⟩
abbrev main_call12_v3 : Ref sig .tc := ⟨.hbm, 249, rfl⟩
abbrev main_call12_v4 : Ref sig .tc := ⟨.hbm, 250, rfl⟩
abbrev main_v169 : Ref sig .tc := ⟨.hbm, 251, rfl⟩
abbrev main_v170 : Ref sig .tc := ⟨.hbm, 252, rfl⟩
abbrev main_v171 : Ref sig .tc := ⟨.hbm, 253, rfl⟩
abbrev main_v172 : Ref sig .tc := ⟨.hbm, 254, rfl⟩
abbrev main_v173 : Ref sig .tc := ⟨.hbm, 255, rfl⟩
abbrev main_cst_17 : Ref sig .tc := ⟨.hbm, 256, rfl⟩
abbrev main_v174 : Ref sig .tc := ⟨.hbm, 257, rfl⟩
abbrev main_v175 : Ref sig .tc := ⟨.hbm, 258, rfl⟩
abbrev main_cst_18 : Ref sig .tc := ⟨.hbm, 259, rfl⟩
abbrev main_call13_v0 : Ref sig .tc := ⟨.hbm, 260, rfl⟩
abbrev main_call13_v1 : Ref sig .tc := ⟨.hbm, 261, rfl⟩
abbrev main_call13_v2 : Ref sig .tc := ⟨.hbm, 262, rfl⟩
abbrev main_call13_cst : Ref sig .tc := ⟨.hbm, 263, rfl⟩
abbrev main_call13_v3 : Ref sig .tc := ⟨.hbm, 264, rfl⟩
abbrev main_call13_v4 : Ref sig .tc := ⟨.hbm, 265, rfl⟩
abbrev main_call13_cst_0 : Ref sig .tc := ⟨.hbm, 266, rfl⟩
abbrev main_call13_v5 : Ref sig .tc := ⟨.hbm, 267, rfl⟩
abbrev main_call13_v6 : Ref sig .tc := ⟨.hbm, 268, rfl⟩
abbrev main_call13_cst_1 : Ref sig .tc := ⟨.hbm, 269, rfl⟩
abbrev main_call13_v7 : Ref sig .tc := ⟨.hbm, 270, rfl⟩
abbrev main_call13_v8 : Ref sig .tc := ⟨.hbm, 271, rfl⟩
abbrev main_call13_v9 : Ref sig .tc := ⟨.hbm, 272, rfl⟩
abbrev main_call13_v10 : Ref sig .tc := ⟨.hbm, 273, rfl⟩
abbrev main_call13_v11 : Ref sig .tc := ⟨.hbm, 274, rfl⟩
abbrev main_call13_v12 : Ref sig .tc := ⟨.hbm, 275, rfl⟩
abbrev main_v176 : Ref sig .tc := ⟨.hbm, 276, rfl⟩
abbrev main_cst_19 : Ref sig .tc := ⟨.hbm, 277, rfl⟩
abbrev main_v177 : Ref sig .tc := ⟨.hbm, 278, rfl⟩
abbrev main_v178 : Ref sig .tc := ⟨.hbm, 279, rfl⟩
abbrev main_v179 : Ref sig .tc := ⟨.hbm, 280, rfl⟩
abbrev main_v180 : Ref sig .tc := ⟨.hbm, 281, rfl⟩
abbrev main_c_20 : Ref sig .tc := ⟨.hbm, 282, rfl⟩
abbrev main_c_21 : Ref sig .tc := ⟨.hbm, 283, rfl⟩
abbrev main_call14_v0 : Ref sig .tc := ⟨.hbm, 284, rfl⟩
abbrev main_call14_v1 : Ref sig .tc := ⟨.hbm, 285, rfl⟩
abbrev main_call14_v2 : Ref sig .tc := ⟨.hbm, 286, rfl⟩
abbrev main_call14_v3 : Ref sig .tc := ⟨.hbm, 287, rfl⟩
abbrev main_call14_v4 : Ref sig .tc := ⟨.hbm, 288, rfl⟩
abbrev main_v181 : Ref sig .tc := ⟨.hbm, 289, rfl⟩
abbrev main_cst_22 : Ref sig .tc := ⟨.hbm, 290, rfl⟩
abbrev main_v182 : Ref sig .tc := ⟨.hbm, 291, rfl⟩
abbrev main_v183 : Ref sig .tc := ⟨.hbm, 292, rfl⟩
abbrev main_v184 : Ref sig .tc := ⟨.hbm, 293, rfl⟩
abbrev main_v185 : Ref sig .tc := ⟨.hbm, 294, rfl⟩
abbrev main_c_23 : Ref sig .tc := ⟨.hbm, 295, rfl⟩
abbrev main_c_24 : Ref sig .tc := ⟨.hbm, 296, rfl⟩
abbrev main_call15_v0 : Ref sig .tc := ⟨.hbm, 297, rfl⟩
abbrev main_call15_v1 : Ref sig .tc := ⟨.hbm, 298, rfl⟩
abbrev main_call15_v2 : Ref sig .tc := ⟨.hbm, 299, rfl⟩
abbrev main_call15_v3 : Ref sig .tc := ⟨.hbm, 300, rfl⟩
abbrev main_call15_v4 : Ref sig .tc := ⟨.hbm, 301, rfl⟩
abbrev main_v186 : Ref sig .tc := ⟨.hbm, 302, rfl⟩
abbrev main_cst_25 : Ref sig .tc := ⟨.hbm, 303, rfl⟩
abbrev main_v187 : Ref sig .tc := ⟨.hbm, 304, rfl⟩
abbrev main_v188 : Ref sig .tc := ⟨.hbm, 305, rfl⟩
abbrev main_cst_26 : Ref sig .tc := ⟨.hbm, 306, rfl⟩
abbrev main_v189 : Ref sig .tc := ⟨.hbm, 307, rfl⟩
abbrev main_v190 : Ref sig .tc := ⟨.hbm, 308, rfl⟩
abbrev main_cst_27 : Ref sig .tc := ⟨.hbm, 309, rfl⟩
abbrev main_v191 : Ref sig .tc := ⟨.hbm, 310, rfl⟩
abbrev main_v192 : Ref sig .tc := ⟨.hbm, 311, rfl⟩
abbrev main_v193 : Ref sig .tc := ⟨.hbm, 312, rfl⟩
abbrev main_v194 : Ref sig .tc := ⟨.hbm, 313, rfl⟩
abbrev main_cst_28 : Ref sig .tc := ⟨.hbm, 314, rfl⟩
abbrev main_v195 : Ref sig .tc := ⟨.hbm, 315, rfl⟩
abbrev main_v196 : Ref sig .tc := ⟨.hbm, 316, rfl⟩
abbrev main_call16_cst : Ref sig .tc := ⟨.hbm, 317, rfl⟩
abbrev main_call16_v0 : Ref sig .tc := ⟨.hbm, 318, rfl⟩
abbrev main_v197 : Ref sig .tc := ⟨.hbm, 319, rfl⟩
abbrev main_cst_29 : Ref sig .tc := ⟨.hbm, 320, rfl⟩
abbrev main_v198 : Ref sig .tc := ⟨.hbm, 321, rfl⟩
abbrev main_v199 : Ref sig .tc := ⟨.hbm, 322, rfl⟩
abbrev main_v200 : Ref sig .tc := ⟨.hbm, 323, rfl⟩
abbrev main_v201 : Ref sig .tc := ⟨.hbm, 324, rfl⟩
abbrev main_v202 : Ref sig .tc := ⟨.hbm, 325, rfl⟩
abbrev main_v203 : Ref sig .tc := ⟨.hbm, 326, rfl⟩
abbrev main_v204 : Ref sig .tc := ⟨.hbm, 327, rfl⟩
abbrev main_v205 : Ref sig .tc := ⟨.hbm, 328, rfl⟩
abbrev main_v206 : Ref sig .tc := ⟨.hbm, 329, rfl⟩
abbrev main_cst_30 : Ref sig .tc := ⟨.hbm, 330, rfl⟩
abbrev main_v207 : Ref sig .tc := ⟨.hbm, 331, rfl⟩
abbrev main_c_31 : Ref sig .tc := ⟨.hbm, 332, rfl⟩
abbrev main_v208 : Ref sig .tc := ⟨.hbm, 333, rfl⟩
abbrev main_v209 : Ref sig .tc := ⟨.hbm, 334, rfl⟩
abbrev main_c_32 : Ref sig .tc := ⟨.hbm, 335, rfl⟩
abbrev main_v210 : Ref sig .tc := ⟨.hbm, 336, rfl⟩
abbrev main_v211 : Ref sig .tc := ⟨.hbm, 337, rfl⟩
abbrev main_v212 : Ref sig .tc := ⟨.hbm, 338, rfl⟩
abbrev main_c_33 : Ref sig .tc := ⟨.hbm, 339, rfl⟩
abbrev main_v213 : Ref sig .tc := ⟨.hbm, 340, rfl⟩
abbrev main_v214 : Ref sig .tc := ⟨.hbm, 341, rfl⟩
abbrev main_c_34 : Ref sig .tc := ⟨.hbm, 342, rfl⟩
abbrev main_v215 : Ref sig .tc := ⟨.hbm, 343, rfl⟩
abbrev main_v216 : Ref sig .tc := ⟨.hbm, 344, rfl⟩
abbrev main_v217 : Ref sig .tc := ⟨.hbm, 345, rfl⟩
abbrev main_c_35 : Ref sig .tc := ⟨.hbm, 346, rfl⟩
abbrev main_v218 : Ref sig .tc := ⟨.hbm, 347, rfl⟩
abbrev main_v219 : Ref sig .tc := ⟨.hbm, 348, rfl⟩
abbrev main_c_36 : Ref sig .tc := ⟨.hbm, 349, rfl⟩
abbrev main_v220 : Ref sig .tc := ⟨.hbm, 350, rfl⟩
abbrev main_v221 : Ref sig .tc := ⟨.hbm, 351, rfl⟩
abbrev main_v222 : Ref sig .tc := ⟨.hbm, 352, rfl⟩
abbrev main_v223 : Ref sig .tc := ⟨.hbm, 353, rfl⟩
abbrev main_v224 : Ref sig .tc := ⟨.hbm, 354, rfl⟩
abbrev main_v225 : Ref sig .tc := ⟨.hbm, 355, rfl⟩
abbrev main_v226 : Ref sig .tc := ⟨.hbm, 356, rfl⟩
abbrev main_v227 : Ref sig .tc := ⟨.hbm, 357, rfl⟩
abbrev main_v228 : Ref sig .tc := ⟨.hbm, 358, rfl⟩
abbrev main_c_37 : Ref sig .tc := ⟨.hbm, 359, rfl⟩
abbrev main_call17_v0 : Ref sig .tc := ⟨.hbm, 360, rfl⟩
abbrev main_v229 : Ref sig .tc := ⟨.hbm, 361, rfl⟩
abbrev main_v230 : Ref sig .tc := ⟨.hbm, 362, rfl⟩
abbrev main_v231 : Ref sig .tc := ⟨.hbm, 363, rfl⟩
abbrev main_v232 : Ref sig .tc := ⟨.hbm, 364, rfl⟩
abbrev main_cst_38 : Ref sig .tc := ⟨.hbm, 365, rfl⟩
abbrev main_v233 : Ref sig .tc := ⟨.hbm, 366, rfl⟩
abbrev main_v234 : Ref sig .tc := ⟨.hbm, 367, rfl⟩
abbrev main_v235 : Ref sig .tc := ⟨.hbm, 368, rfl⟩
abbrev main_v236 : Ref sig .tc := ⟨.hbm, 369, rfl⟩
abbrev main_v237 : Ref sig .tc := ⟨.hbm, 370, rfl⟩
abbrev main_v238 : Ref sig .tc := ⟨.hbm, 371, rfl⟩
abbrev main_v239 : Ref sig .tc := ⟨.hbm, 372, rfl⟩
abbrev main_v240 : Ref sig .tc := ⟨.hbm, 373, rfl⟩
abbrev main_v241 : Ref sig .tc := ⟨.hbm, 374, rfl⟩
abbrev main_v242 : Ref sig .tc := ⟨.hbm, 375, rfl⟩
abbrev main_v243 : Ref sig .tc := ⟨.hbm, 376, rfl⟩
abbrev main_v244 : Ref sig .tc := ⟨.hbm, 377, rfl⟩
abbrev main_v245 : Ref sig .tc := ⟨.hbm, 378, rfl⟩
abbrev main_v246 : Ref sig .tc := ⟨.hbm, 379, rfl⟩
abbrev main_v247 : Ref sig .tc := ⟨.hbm, 380, rfl⟩
abbrev main_v248 : Ref sig .tc := ⟨.hbm, 381, rfl⟩
abbrev main_v249 : Ref sig .tc := ⟨.hbm, 382, rfl⟩
abbrev main_v250 : Ref sig .tc := ⟨.hbm, 383, rfl⟩
abbrev main_v251 : Ref sig .tc := ⟨.hbm, 384, rfl⟩
abbrev main_v252 : Ref sig .tc := ⟨.hbm, 385, rfl⟩
abbrev main_v253 : Ref sig .tc := ⟨.hbm, 386, rfl⟩
abbrev main_v254 : Ref sig .tc := ⟨.hbm, 387, rfl⟩
abbrev main_v255 : Ref sig .tc := ⟨.hbm, 388, rfl⟩
abbrev main_v256 : Ref sig .tc := ⟨.hbm, 389, rfl⟩
abbrev main_v257 : Ref sig .tc := ⟨.hbm, 390, rfl⟩
abbrev main_v258 : Ref sig .tc := ⟨.hbm, 391, rfl⟩
abbrev main_v259 : Ref sig .tc := ⟨.hbm, 392, rfl⟩
abbrev main_v260 : Ref sig .tc := ⟨.hbm, 393, rfl⟩
abbrev main_v261 : Ref sig .tc := ⟨.hbm, 394, rfl⟩
abbrev main_v262 : Ref sig .tc := ⟨.hbm, 395, rfl⟩
abbrev main_v263 : Ref sig .tc := ⟨.hbm, 396, rfl⟩
abbrev main_v264 : Ref sig .tc := ⟨.hbm, 397, rfl⟩
abbrev main_v265 : Ref sig .tc := ⟨.hbm, 398, rfl⟩
abbrev main_v266 : Ref sig .tc := ⟨.hbm, 399, rfl⟩
abbrev main_v267 : Ref sig .tc := ⟨.hbm, 400, rfl⟩
abbrev main_v268 : Ref sig .tc := ⟨.hbm, 401, rfl⟩
abbrev main_v269 : Ref sig .tc := ⟨.hbm, 402, rfl⟩
abbrev main_v270 : Ref sig .tc := ⟨.hbm, 403, rfl⟩
abbrev main_v271 : Ref sig .tc := ⟨.hbm, 404, rfl⟩
abbrev main_v272 : Ref sig .tc := ⟨.hbm, 405, rfl⟩
abbrev main_v273 : Ref sig .tc := ⟨.hbm, 406, rfl⟩
abbrev main_v274 : Ref sig .tc := ⟨.hbm, 407, rfl⟩
abbrev main_v275 : Ref sig .tc := ⟨.hbm, 408, rfl⟩
abbrev main_v276 : Ref sig .tc := ⟨.hbm, 409, rfl⟩
abbrev main_v277 : Ref sig .tc := ⟨.hbm, 410, rfl⟩
abbrev main_v278 : Ref sig .tc := ⟨.hbm, 411, rfl⟩
abbrev main_v279 : Ref sig .tc := ⟨.hbm, 412, rfl⟩
abbrev main_v280 : Ref sig .tc := ⟨.hbm, 413, rfl⟩
abbrev main_v281 : Ref sig .tc := ⟨.hbm, 414, rfl⟩
abbrev main_v282 : Ref sig .tc := ⟨.hbm, 415, rfl⟩
abbrev main_v283 : Ref sig .tc := ⟨.hbm, 416, rfl⟩
abbrev main_v284 : Ref sig .tc := ⟨.hbm, 417, rfl⟩
abbrev main_v285 : Ref sig .tc := ⟨.hbm, 418, rfl⟩
abbrev main_v286 : Ref sig .tc := ⟨.hbm, 419, rfl⟩
abbrev main_v287 : Ref sig .tc := ⟨.hbm, 420, rfl⟩
abbrev main_v288 : Ref sig .tc := ⟨.hbm, 421, rfl⟩
abbrev main_v289 : Ref sig .tc := ⟨.hbm, 422, rfl⟩
abbrev main_v290 : Ref sig .tc := ⟨.hbm, 423, rfl⟩
abbrev main_v291 : Ref sig .tc := ⟨.hbm, 424, rfl⟩
abbrev main_v292 : Ref sig .tc := ⟨.hbm, 425, rfl⟩
abbrev main_v293 : Ref sig .tc := ⟨.hbm, 426, rfl⟩
abbrev main_v294 : Ref sig .tc := ⟨.hbm, 427, rfl⟩
abbrev main_v295 : Ref sig .tc := ⟨.hbm, 428, rfl⟩
abbrev main_v296 : Ref sig .tc := ⟨.hbm, 429, rfl⟩
abbrev main_v297 : Ref sig .tc := ⟨.hbm, 430, rfl⟩
abbrev main_v298 : Ref sig .tc := ⟨.hbm, 431, rfl⟩
abbrev main_v299 : Ref sig .tc := ⟨.hbm, 432, rfl⟩
abbrev main_v300 : Ref sig .tc := ⟨.hbm, 433, rfl⟩
abbrev main_v301 : Ref sig .tc := ⟨.hbm, 434, rfl⟩
abbrev main_v302 : Ref sig .tc := ⟨.hbm, 435, rfl⟩
abbrev main_v303 : Ref sig .tc := ⟨.hbm, 436, rfl⟩
abbrev main_v304 : Ref sig .tc := ⟨.hbm, 437, rfl⟩
abbrev main_v305 : Ref sig .tc := ⟨.hbm, 438, rfl⟩
abbrev main_v306 : Ref sig .tc := ⟨.hbm, 439, rfl⟩
abbrev main_v307 : Ref sig .tc := ⟨.hbm, 440, rfl⟩
abbrev main_v308 : Ref sig .tc := ⟨.hbm, 441, rfl⟩
abbrev main_v309 : Ref sig .tc := ⟨.hbm, 442, rfl⟩
abbrev main_v310 : Ref sig .tc := ⟨.hbm, 443, rfl⟩
abbrev main_v311 : Ref sig .tc := ⟨.hbm, 444, rfl⟩
abbrev main_v312 : Ref sig .tc := ⟨.hbm, 445, rfl⟩
abbrev main_v313 : Ref sig .tc := ⟨.hbm, 446, rfl⟩
abbrev main_v314 : Ref sig .tc := ⟨.hbm, 447, rfl⟩
abbrev main_v315 : Ref sig .tc := ⟨.hbm, 448, rfl⟩
abbrev main_v316 : Ref sig .tc := ⟨.hbm, 449, rfl⟩
abbrev main_v317 : Ref sig .tc := ⟨.hbm, 450, rfl⟩
abbrev main_v318 : Ref sig .tc := ⟨.hbm, 451, rfl⟩
abbrev main_v319 : Ref sig .tc := ⟨.hbm, 452, rfl⟩
abbrev main_v320 : Ref sig .tc := ⟨.hbm, 453, rfl⟩
abbrev main_v321 : Ref sig .tc := ⟨.hbm, 454, rfl⟩
abbrev main_v322 : Ref sig .tc := ⟨.hbm, 455, rfl⟩
abbrev main_v323 : Ref sig .tc := ⟨.hbm, 456, rfl⟩
abbrev main_v324 : Ref sig .tc := ⟨.hbm, 457, rfl⟩
abbrev main_v325 : Ref sig .tc := ⟨.hbm, 458, rfl⟩
abbrev main_v326 : Ref sig .tc := ⟨.hbm, 459, rfl⟩
abbrev main_v327 : Ref sig .tc := ⟨.hbm, 460, rfl⟩
abbrev main_v328 : Ref sig .tc := ⟨.hbm, 461, rfl⟩
abbrev main_v329 : Ref sig .tc := ⟨.hbm, 462, rfl⟩
abbrev main_v330 : Ref sig .tc := ⟨.hbm, 463, rfl⟩
abbrev main_v331 : Ref sig .tc := ⟨.hbm, 464, rfl⟩
abbrev main_v332 : Ref sig .tc := ⟨.hbm, 465, rfl⟩
abbrev main_v333 : Ref sig .tc := ⟨.hbm, 466, rfl⟩
abbrev main_v334 : Ref sig .tc := ⟨.hbm, 467, rfl⟩
abbrev main_v335 : Ref sig .tc := ⟨.hbm, 468, rfl⟩
abbrev main_v336 : Ref sig .tc := ⟨.hbm, 469, rfl⟩
abbrev main_v337 : Ref sig .tc := ⟨.hbm, 470, rfl⟩
abbrev main_v338 : Ref sig .tc := ⟨.hbm, 471, rfl⟩
abbrev main_v339 : Ref sig .tc := ⟨.hbm, 472, rfl⟩
abbrev main_v340 : Ref sig .tc := ⟨.hbm, 473, rfl⟩
abbrev main_v341 : Ref sig .tc := ⟨.hbm, 474, rfl⟩
abbrev main_v342 : Ref sig .tc := ⟨.hbm, 475, rfl⟩
abbrev main_v343 : Ref sig .tc := ⟨.hbm, 476, rfl⟩
abbrev main_v344 : Ref sig .tc := ⟨.hbm, 477, rfl⟩
abbrev main_v345 : Ref sig .tc := ⟨.hbm, 478, rfl⟩
abbrev main_v346 : Ref sig .tc := ⟨.hbm, 479, rfl⟩
abbrev main_v347 : Ref sig .tc := ⟨.hbm, 480, rfl⟩
abbrev main_v348 : Ref sig .tc := ⟨.hbm, 481, rfl⟩
abbrev main_v349 : Ref sig .tc := ⟨.hbm, 482, rfl⟩
abbrev main_v350 : Ref sig .tc := ⟨.hbm, 483, rfl⟩
abbrev main_v351 : Ref sig .tc := ⟨.hbm, 484, rfl⟩
abbrev main_v352 : Ref sig .tc := ⟨.hbm, 485, rfl⟩
abbrev main_v353 : Ref sig .tc := ⟨.hbm, 486, rfl⟩
abbrev main_v354 : Ref sig .tc := ⟨.hbm, 487, rfl⟩
abbrev main_v355 : Ref sig .tc := ⟨.hbm, 488, rfl⟩
abbrev main_v356 : Ref sig .tc := ⟨.hbm, 489, rfl⟩
abbrev main_v357 : Ref sig .tc := ⟨.hbm, 490, rfl⟩
abbrev main_v358 : Ref sig .tc := ⟨.hbm, 491, rfl⟩
abbrev main_v359 : Ref sig .tc := ⟨.hbm, 492, rfl⟩
abbrev main_v360 : Ref sig .tc := ⟨.hbm, 493, rfl⟩
abbrev main_v361 : Ref sig .tc := ⟨.hbm, 494, rfl⟩
abbrev main_c_39 : Ref sig .tc := ⟨.hbm, 495, rfl⟩
abbrev main_v362 : Ref sig .tc := ⟨.hbm, 496, rfl⟩
abbrev main_v363 : Ref sig .tc := ⟨.hbm, 497, rfl⟩
abbrev main_c_40 : Ref sig .tc := ⟨.hbm, 498, rfl⟩
abbrev main_v364 : Ref sig .tc := ⟨.hbm, 499, rfl⟩
abbrev main_v365 : Ref sig .tc := ⟨.hbm, 500, rfl⟩
abbrev main_v366 : Ref sig .tc := ⟨.hbm, 501, rfl⟩
abbrev main_c_41 : Ref sig .tc := ⟨.hbm, 502, rfl⟩
abbrev main_v367 : Ref sig .tc := ⟨.hbm, 503, rfl⟩
abbrev main_v368 : Ref sig .tc := ⟨.hbm, 504, rfl⟩
abbrev main_c_42 : Ref sig .tc := ⟨.hbm, 505, rfl⟩
abbrev main_v369 : Ref sig .tc := ⟨.hbm, 506, rfl⟩
abbrev main_v370 : Ref sig .tc := ⟨.hbm, 507, rfl⟩
abbrev main_v371 : Ref sig .tc := ⟨.hbm, 508, rfl⟩
abbrev main_c_43 : Ref sig .tc := ⟨.hbm, 509, rfl⟩
abbrev main_v372 : Ref sig .tc := ⟨.hbm, 510, rfl⟩
abbrev main_v373 : Ref sig .tc := ⟨.hbm, 511, rfl⟩
abbrev main_c_44 : Ref sig .tc := ⟨.hbm, 512, rfl⟩
abbrev main_v374 : Ref sig .tc := ⟨.hbm, 513, rfl⟩
abbrev main_v375 : Ref sig .tc := ⟨.hbm, 514, rfl⟩
abbrev main_v376 : Ref sig .tc := ⟨.hbm, 515, rfl⟩
abbrev main_v377 : Ref sig .tc := ⟨.hbm, 516, rfl⟩
abbrev main_v378 : Ref sig .tc := ⟨.hbm, 517, rfl⟩
abbrev main_v379 : Ref sig .tc := ⟨.hbm, 518, rfl⟩
abbrev main_v380 : Ref sig .tc := ⟨.hbm, 519, rfl⟩
abbrev main_v381 : Ref sig .tc := ⟨.hbm, 520, rfl⟩
abbrev main_v382 : Ref sig .tc := ⟨.hbm, 521, rfl⟩
abbrev main_v383 : Ref sig .tc := ⟨.hbm, 522, rfl⟩

abbrev nD : Nat := 1
abbrev τ : Topo := Topo.v7x

variable {F : FTy → Type} [FloatOps F]
-- ==== Proof.KRun.lean ====
/- The kernel's run, with the contents of its result array at the end. -/
module

public import proofs.«01_k».proof.Proof.Gen.KernelIdeal.Frame

@[expose] public section

set_option maxRecDepth 16384

noncomputable section

namespace Cert.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unfolding plain definitions in a type
set_option backward.isDefEq.respectTransparency.types false in
/-- Every run of the kernel ends with its result array at what the last stretch of host operations leaves there,
    and with its arguments as launched: the generated frame's set-up, read at one more buffer. -/
theorem run : θ_run defs (onTc (τ := τ) (main (F := F))) ⟨m, fun _ => 0, ρ⟩ (fun r => ∀ c : Dev nD,
      r.2.mem ((c.tc : Thread nD τ).loc main_v135) = W21 m ρ c (Proc.devRef .tc main_v135)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h _ c =>
      ⟨h c _ (mem_uc main_v135 (by decide)),
       (h c _ (mem_uc main_arg0 (by decide))).trans (W21_main_arg0 m ρ c),
       (h c _ (mem_uc main_arg1 (by decide))).trans (W21_main_arg1 m ρ c),
       (h c _ (mem_uc main_arg2 (by decide))).trans (W21_main_arg2 m ρ c)⟩)

end Cert.KRun
end
-- ==== Proof.Rot.lean ====
/- The rotation that takes a far point's direction onto the z axis: the host's chain of operations, named stage by stage. The kernel and
   the reference build it with the same operations from the same far points, so neither's arithmetic is opened. -/
module

public import proofs.«01_k».proof.Proof.Gen.KernelIdeal.Frame
public import proofs.«01_k».proof.Proof.Gen.ReferenceIdeal.Run

@[expose] public section

set_option maxRecDepth 16384

noncomputable section

namespace Cert.Rot

open Idealize.ShloMosaic Idealize.ShloMosaic.TcCoe Idealize.ShloMosaic.Tactic
open Idealize.SL.Sem
open Cert.KernelIdeal Cert.KernelIdeal.Gen

variable {F : FTy → Type} [FloatOps F]

/-- Each row's length. -/
def norm (v : FVec F S65536x3 .f32) : FVec F S65536x1 .f32 :=
  Host.sqrt (broadcastInDim S65536x1 ![0] bcast_S65536_S65536x1_0
    (Host.reduceAdd (mulf v v) (constant S_ .f32 0x00000000#32) reducesTo_S65536x3_S65536_d1 h_S_))

/-- Each row over its given length, a small number added to the length. -/
def over (e : BitVec 32) (v : FVec F S65536x3 .f32) (l : FVec F S65536x1 .f32) : FVec F S65536x3 .f32 :=
  Host.divf v (broadcastInDim S65536x3 ![0, 1] bcast_S65536x1_S65536x3_0_1
    (addf l (broadcastInDim S65536x1 ![] bcast_S_S65536x1 (constant S_ .f32 e))))

/-- One vector on every row. -/
def every (w : FVec F S3 .f32) : FVec F S65536x3 .f32 := broadcastInDim S65536x3 ![1] bcast_S3_S65536x3_1 w

/-- The three columns. -/
def col0 (v : FVec F S65536x3 .f32) : FVec F S65536 .f32 :=
  shapeCast _ (extractStridedSlice S65536x1 ![0, 0] v slices_S65536x3_S65536x1_0_0) shapeCasts_S65536x1_S65536
def col1 (v : FVec F S65536x3 .f32) : FVec F S65536 .f32 :=
  shapeCast _ (extractStridedSlice S65536x1 ![0, 1] v slices_S65536x3_S65536x1_0_1) shapeCasts_S65536x1_S65536
def col2 (v : FVec F S65536x3 .f32) : FVec F S65536 .f32 :=
  shapeCast _ (extractStridedSlice S65536x1 ![0, 2] v slices_S65536x3_S65536x1_0_2) shapeCasts_S65536x1_S65536

/-- The cross product, row by row. -/
def cross (a b : FVec F S65536x3 .f32) : FVec F S65536x3 .f32 :=
  transpose S65536x3 [1, 0] (concatenate S3x65536 0
    [⟨S1x65536, (broadcastInDim S1x65536 ![1] bcast_S65536_S1x65536_1 (subf (mulf (col1 a) (col2 b)) (mulf (col2 a) (col1 b))))⟩,
     ⟨S1x65536, (broadcastInDim S1x65536 ![1] bcast_S65536_S1x65536_1 (subf (mulf (col2 a) (col0 b)) (mulf (col0 a) (col2 b))))⟩,
     ⟨S1x65536, (broadcastInDim S1x65536 ![1] bcast_S65536_S1x65536_1 (subf (mulf (col0 a) (col1 b)) (mulf (col1 a) (col0 b))))⟩]
    concatenates_S1x65536_S1x65536_S1x65536_S3x65536_d0) transposes_S3x65536_S65536x3_1_0

/-- The inner product, row by row. -/
def inner (a b : FVec F S65536x3 .f32) : FVec F S65536x1 .f32 :=
  broadcastInDim S65536x1 ![0] bcast_S65536_S65536x1_0
    (Host.reduceAdd (mulf a b) (constant S_ .f32 0x00000000#32) reducesTo_S65536x3_S65536_d1 h_S_)

/-- Rows whose sine is near zero and whose cosine is on the given side of zero. -/
def nearly (p : CmpFPredicate) (s c : FVec F S65536x1 .f32) : IVec S65536 1 :=
  andi (cmpf .olt (shapeCast _ s shapeCasts_S65536x1_S65536) (broadcastInDim S65536 ![] bcast_S_S65536 (constant S_ .f32 0x322BCC77#32)))
    (cmpf p (shapeCast _ c shapeCasts_S65536x1_S65536) (broadcastInDim S65536 ![] bcast_S_S65536 (constant S_ .f32 0x00000000#32)))

/-- A coordinate axis the direction is not along. -/
def other (a : FVec F S65536x3 .f32) : FVec F S65536x3 .f32 :=
  select (broadcastInDim S65536x3 ![0, 1] bcast_S65536x1_S65536x3_0_1
      (cmpf .olt (Host.absf (extractStridedSlice S65536x1 ![0, 0] a slices_S65536x3_S65536x1_0_0))
        (broadcastInDim S65536x1 ![] bcast_S_S65536x1 (constant S_ .f32 0x3F666666#32))))
    (every fun i => FloatOps.ofBits .f32 (lit1 (S3.rowMajor i))) (every fun i => FloatOps.ofBits .f32 (lit2 (S3.rowMajor i)))

/-- The z axis on every row. -/
def zAxis : FVec F S65536x3 .f32 := every fun i => FloatOps.ofBits .f32 (lit0 (S3.rowMajor i))

/-- The axis of rotation before it is normalised. -/
def axis (w p : FVec F S65536x3 .f32) (s c : FVec F S65536x1 .f32) : FVec F S65536x3 .f32 :=
  select (broadcastInDim S65536x3 ![0, 1] bcast_S65536x1_S65536x3_0_1
      (broadcastInDim S65536x1 ![0] bcast_S65536_S65536x1_0 (nearly .olt s c)))
    (over 0x322BCC77#32 p (norm p)) w

/-- One row of the cross-product matrix. -/
def row3 (x y z : FVec F S65536 .f32) : FVec F S65536x1x3 .f32 :=
  broadcastInDim S65536x1x3 ![0, 2] bcast_S65536x3_S65536x1x3_0_2
    (concatenate S65536x3 1 [⟨S65536x1, (broadcastInDim S65536x1 ![0] bcast_S65536_S65536x1_0 x)⟩,
      ⟨S65536x1, (broadcastInDim S65536x1 ![0] bcast_S65536_S65536x1_0 y)⟩,
      ⟨S65536x1, (broadcastInDim S65536x1 ![0] bcast_S65536_S65536x1_0 z)⟩]
      concatenates_S65536x1_S65536x1_S65536x1_S65536x3_d1)

/-- Zero on every row. -/
def zeros : FVec F S65536 .f32 := broadcastInDim S65536 ![] bcast_S_S65536 (constant S_ .f32 0x00000000#32)

/-- The cross-product matrix of an axis. -/
def skew (n : FVec F S65536x3 .f32) : FVec F S65536x3x3 .f32 :=
  concatenate S65536x3x3 1 [⟨S65536x1x3, row3 zeros (Host.negf (col2 n)) (col1 n)⟩,
    ⟨S65536x1x3, row3 (col2 n) zeros (Host.negf (col0 n))⟩, ⟨S65536x1x3, row3 (Host.negf (col1 n)) (col0 n) zeros⟩]
    concatenates_S65536x1x3_S65536x1x3_S65536x1x3_S65536x3x3_d1

/-- The unit matrix on every row. -/
def eye : FVec F S65536x3x3 .f32 :=
  broadcastInDim S65536x3x3 ![1, 2] bcast_S3x3_S65536x3x3_1_2
    (uitofp .f32 (cmpi .eq (addi (iotaInDim S3x3 32 0) (broadcastInDim S3x3 ![] bcast_S_S3x3 (constantI S_ 32 0#32))) (iotaInDim S3x3 32 1)))

/-- The rotation about a unit axis by the angle of the given sine and cosine. -/
def turn (k : FVec F S65536x3x3 .f32) (s c : FVec F S65536x1 .f32) : FVec F S65536x3x3 .f32 :=
  addf (addf eye (mulf k (broadcastInDim S65536x3x3 ![0, 1, 2] bcast_S65536x1x1_S65536x3x3_0_1_2
      (broadcastInDim S65536x1x1 ![0, 1] bcast_S65536x1_S65536x1x1_0_1 s))))
    (mulf (Host.dotGeneral dot_S65536x3x3_S65536x3x3_S65536x3x3_2_1_1_2_0_0 none k k)
      (broadcastInDim S65536x3x3 ![0, 1, 2] bcast_S65536x1x1_S65536x3x3_0_1_2
        (subf (broadcastInDim S65536x1x1 ![] bcast_S_S65536x1x1 (constant S_ .f32 0x3F800000#32))
          (broadcastInDim S65536x1x1 ![0, 1] bcast_S65536x1_S65536x1x1_0_1 c))))

/-- The unit matrix where the direction is the z axis already, the given rotation elsewhere. -/
def choose (b : IVec S65536 1) (r : FVec F S65536x3x3 .f32) : FVec F S65536x3x3 .f32 :=
  select (broadcastInDim S65536x3x3 ![0, 1, 2] bcast_S65536x1x1_S65536x3x3_0_1_2
    (broadcastInDim S65536x1x1 ![0] bcast_S65536_S65536x1x1_0 b)) eye r

/-- The direction of each far point, normalised twice as both programs do. -/
def dir (v : FVec F S65536x3 .f32) : FVec F S65536x3 .f32 :=
  over 0x322BCC77#32 (over 0x2B8CBCCC#32 v (norm v)) (norm (over 0x2B8CBCCC#32 v (norm v)))

/-- The rotation of a direction onto the z axis. -/
def ofDir (a : FVec F S65536x3 .f32) : FVec F S65536x3x3 .f32 :=
  choose (nearly .ogt (norm (cross a zAxis)) (inner a zAxis))
    (turn (skew (over 0x322BCC77#32 (axis (cross a zAxis) (cross a (other a)) (norm (cross a zAxis)) (inner a zAxis))
        (norm (axis (cross a zAxis) (cross a (other a)) (norm (cross a zAxis)) (inner a zAxis)))))
      (norm (cross a zAxis)) (inner a zAxis))

/-- The rotation of each far point's direction onto the z axis. -/
def align (v : FVec F S65536x3 .f32) : FVec F S65536x3x3 .f32 := ofDir (dir v)

/-! ## The reference's chain -/

section
open Cert.ReferenceIdeal.Value
variable (V : Valuation Cert.ReferenceIdeal.τ Cert.ReferenceIdeal.sig (Elt F))

theorem ref_v12 : res_main_v12 V = over 0x2B8CBCCC#32 (res_main_v7 V) (norm (res_main_v7 V)) := rfl
theorem ref_v19 : res_main_v19 V = dir (res_main_v7 V) := rfl
theorem ref_v14 : res_main_v14 V = zAxis := rfl
theorem ref_v45 : res_main_v45 V = cross (dir (res_main_v7 V)) zAxis := rfl
theorem ref_v46 : res_main_v46 V = norm (cross (dir (res_main_v7 V)) zAxis) := rfl
theorem ref_v49 : res_main_v49 V = inner (dir (res_main_v7 V)) zAxis := rfl
theorem ref_v70 : res_main_v70 V = other (dir (res_main_v7 V)) := rfl
theorem ref_v96 : res_main_v96 V = cross (res_main_v19 V) (res_main_v70 V) := rfl
theorem ref_v103 : res_main_v103 V = axis (res_main_v45 V) (res_main_v96 V) (res_main_v46 V) (res_main_v49 V) := rfl
theorem ref_v108 : res_main_v108 V = over 0x322BCC77#32 (res_main_v103 V) (norm (res_main_v103 V)) := rfl
theorem ref_v142 : res_main_v142 V = skew (res_main_v108 V) := rfl
theorem ref_v149 : res_main_v149 V = eye := rfl

/-- The reference's rotated points: the points against the rotation's transpose. -/
theorem ref_v164 : res_main_v164 V = Host.dotGeneral Cert.ReferenceIdeal.dot_S65536x32x3_S65536x3x3_S65536x32x3_2_1_1_2_0_0 none
    (shapeCast _ (res_main_v0 V) Cert.ReferenceIdeal.Gen.shapeCasts_S8x8192x32x3_S65536x32x3)
    (transpose S65536x3x3 [0, 2, 1] (align (res_main_v7 V)) Cert.ReferenceIdeal.Gen.transposes_S65536x3x3_S65536x3x3_0_2_1) := by
  have e : res_main_v164 V = Host.dotGeneral Cert.ReferenceIdeal.dot_S65536x32x3_S65536x3x3_S65536x32x3_2_1_1_2_0_0 none
      (shapeCast _ (res_main_v0 V) Cert.ReferenceIdeal.Gen.shapeCasts_S8x8192x32x3_S65536x32x3)
      (transpose S65536x3x3 [0, 2, 1] (choose (nearly .ogt (res_main_v46 V) (res_main_v49 V))
        (turn (res_main_v142 V) (res_main_v46 V) (res_main_v49 V)))
        Cert.ReferenceIdeal.Gen.transposes_S65536x3x3_S65536x3x3_0_2_1) := rfl
  rw [e, ref_v142, ref_v108, ref_v103, ref_v96, ref_v45, ref_v46, ref_v49, ref_v70, ref_v19]
  rfl
end

/-! ## The kernel's chain -/

section
variable (X : Valuation τ sig (Elt F))

theorem k3 : StableHlo.after hostOps1 X (Proc.devRef .tc main_v4)
    = transpose S65536x3 [1, 0] (X (Proc.devRef .tc main_v3)) transposes_S3x65536_S65536x3_1_0 := by after_results_simp
theorem k4 : StableHlo.after hostOps1_1 X (Proc.devRef .tc main_v5) = norm (X (Proc.devRef .tc main_v4)) := by
  after_results_simp; rfl
theorem k5 : StableHlo.after hostOps1_2 X (Proc.devRef .tc main_v9)
    = over 0x2B8CBCCC#32 (X (Proc.devRef .tc main_v4)) (X (Proc.devRef .tc main_v5)) := by after_results_simp; rfl
theorem k5z : StableHlo.after hostOps1_2 X (Proc.devRef .tc main_v10) = every (X (Proc.devRef .tc main_cst)) := by
  after_results_simp; rfl
theorem k6 : StableHlo.after hostOps1_3 X (Proc.devRef .tc main_v11) = norm (X (Proc.devRef .tc main_v9)) := by
  after_results_simp; rfl
theorem k7 : StableHlo.after hostOps1_4 X (Proc.devRef .tc main_v15)
    = over 0x322BCC77#32 (X (Proc.devRef .tc main_v9)) (X (Proc.devRef .tc main_v11)) := by after_results_simp; rfl
theorem k8 : StableHlo.after hostOps1_5 X (Proc.devRef .tc main_v16)
    = cross (X (Proc.devRef .tc main_v15)) (X (Proc.devRef .tc main_v10)) := by after_results_simp; rfl
theorem k9 : StableHlo.after hostOps1_6 X (Proc.devRef .tc main_v17) = norm (X (Proc.devRef .tc main_v16)) := by
  after_results_simp; rfl
theorem k10c : StableHlo.after hostOps1_7 X (Proc.devRef .tc main_v20)
    = inner (X (Proc.devRef .tc main_v15)) (X (Proc.devRef .tc main_v10)) := by after_results_simp; rfl
theorem k10z : StableHlo.after hostOps1_7 X (Proc.devRef .tc main_v27)
    = nearly .ogt (X (Proc.devRef .tc main_v17)) (inner (X (Proc.devRef .tc main_v15)) (X (Proc.devRef .tc main_v10))) := by
  after_results_simp; rfl
theorem k10p : StableHlo.after hostOps1_7 X (Proc.devRef .tc main_v34)
    = nearly .olt (X (Proc.devRef .tc main_v17)) (inner (X (Proc.devRef .tc main_v15)) (X (Proc.devRef .tc main_v10))) := by
  after_results_simp; rfl
theorem k11 (h0 : X (Proc.devRef .tc main_cst_0) = fun i => FloatOps.ofBits .f32 (lit1 (S3.rowMajor i)))
    (h1 : X (Proc.devRef .tc main_cst_1) = fun i => FloatOps.ofBits .f32 (lit2 (S3.rowMajor i))) :
    StableHlo.after hostOps1_8 (StableHlo.after hostOps1_7 X) (Proc.devRef .tc main_v41) = other (X (Proc.devRef .tc main_v15)) := by
  after_results_simp; rw [h0, h1]; rfl
theorem k12 : StableHlo.after hostOps1_9 X (Proc.devRef .tc main_v42)
    = cross (X (Proc.devRef .tc main_v15)) (X (Proc.devRef .tc main_v41)) := by after_results_simp; rfl
theorem k13 : StableHlo.after hostOps1_10 X (Proc.devRef .tc main_v43) = norm (X (Proc.devRef .tc main_v42)) := by
  after_results_simp; rfl
theorem k15 : StableHlo.after hostOps1_12 (StableHlo.after hostOps1_11 X) (Proc.devRef .tc main_v49)
    = select (broadcastInDim S65536x3 ![0, 1] bcast_S65536x1_S65536x3_0_1
        (broadcastInDim S65536x1 ![0] bcast_S65536_S65536x1_0 (X (Proc.devRef .tc main_v34))))
      (over 0x322BCC77#32 (X (Proc.devRef .tc main_v42)) (X (Proc.devRef .tc main_v43))) (X (Proc.devRef .tc main_v16)) := by
  after_results_simp; rfl
theorem k16 : StableHlo.after hostOps1_13 X (Proc.devRef .tc main_v50) = norm (X (Proc.devRef .tc main_v49)) := by
  after_results_simp; rfl
theorem k18 : StableHlo.after hostOps1_15 (StableHlo.after hostOps1_14 X) (Proc.devRef .tc main_v108)
    = choose (X (Proc.devRef .tc main_v27)) (turn (skew (over 0x322BCC77#32 (X (Proc.devRef .tc main_v49)) (X (Proc.devRef .tc main_v50))))
      (X (Proc.devRef .tc main_v17)) (X (Proc.devRef .tc main_v20))) := by
  after_results_simp; rfl
end

end Cert.Rot
end
-- ==== Proof.Maths.lean ====
/- Facts about extended reals and short sorts, used by the values of both programs. -/
module

public import Idealize.ShloMosaic.Lib.Pipeline.ValueKit
public import Idealize.ShloMosaic.Lib.Pointwise
public import Idealize.ShloMosaic.Lib.SortFacts
public import Mathlib.Analysis.SpecialFunctions.Trigonometric.Arctan

@[expose] public section

noncomputable section

namespace Cert.Maths

open Idealize.ShloMosaic

/-! ## The first greatest element -/

/-- `k` goes before `k'`: its element is the greater one. -/
def gtBefore (r : Fin 32 → EReal) (k k' : Fin 32) : Bool := Ideal.cmp .ogt (r k) (r k') == 1#1

/-- The position a stable descending sort puts first. -/
def far (r : Fin 32 → EReal) : Fin 32 := sortedFrom (gtBefore r) 0

/-- `a` holds a greatest element, and every earlier one is smaller. -/
def IsFirst (r : Fin 32 → EReal) (a : Fin 32) : Prop := (∀ g, r g ≤ r a) ∧ ∀ g, g < a → r g < r a

theorem gtBefore_iff (r : Fin 32 → EReal) (k k' : Fin 32) : gtBefore r k k' = true ↔ r k' < r k := by
  unfold gtBefore Ideal.cmp
  by_cases h : r k' < r k <;> simp [h]

/-- The head of a stable descending sort of an increasing list of positions is the list's first greatest. -/
theorem stableSort_head (r : Fin 32 → EReal) (l : List (Fin 32)) (hl : l.Pairwise (· < ·)) (h : Fin 32) (t : List (Fin 32))
    (he : stableSort (gtBefore r) l = h :: t) : h ∈ l ∧ (∀ g ∈ l, r g ≤ r h) ∧ ∀ g ∈ l, g < h → r g < r h := by
  induction l generalizing h t with
  | nil => simp [stableSort] at he
  | cons a l ih =>
    rw [List.pairwise_cons] at hl
    unfold stableSort at he
    rcases hs : stableSort (gtBefore r) l with _ | ⟨b, u⟩
    · have : l = [] := by
        have := length_stableSort (gtBefore r) l
        rw [hs] at this
        exact List.eq_nil_of_length_eq_zero this.symm
      subst this
      rw [hs] at he
      simp only [insertBefore, List.cons.injEq] at he
      obtain ⟨rfl, -⟩ := he
      simp
    · obtain ⟨hm, hmax, hfirst⟩ := ih hl.2 b u hs
      rw [hs] at he
      unfold insertBefore at he
      split at he
      · rename_i hb
        rw [gtBefore_iff] at hb
        rw [List.cons.injEq] at he
        obtain ⟨rfl, -⟩ := he
        refine ⟨List.mem_cons_of_mem _ hm, ?_, ?_⟩
        · intro g hg
          rcases List.mem_cons.mp hg with rfl | hg
          · exact hb.le
          · exact hmax g hg
        · intro g hg hlt
          rcases List.mem_cons.mp hg with rfl | hg
          · exact hb
          · exact hfirst g hg hlt
      · rename_i hb
        rw [gtBefore_iff, not_lt] at hb
        rw [List.cons.injEq] at he
        obtain ⟨rfl, -⟩ := he
        refine ⟨List.mem_cons_self, ?_, ?_⟩
        · intro g hg
          rcases List.mem_cons.mp hg with rfl | hg
          · exact le_rfl
          · exact (hmax g hg).trans hb
        · intro g hg hlt
          rcases List.mem_cons.mp hg with rfl | hg
          · exact absurd hlt (lt_irrefl _)
          · exact absurd (hlt.trans (hl.1 g hg)) (lt_irrefl _)

/-- The first sorted position is the head of the sorted list. -/
theorem sortedFrom_zero {n : Nat} (before : Fin (n + 1) → Fin (n + 1) → Bool) (h : Fin (n + 1)) (t : List (Fin (n + 1)))
    (hs : sortPositions (n + 1) before = h :: t) : sortedFrom before 0 = h := by
  have hget : ∀ (l : List (Fin (n + 1))) (i : Fin l.length), i.val = 0 → l = h :: t → l.get i = h := by
    rintro _ i hi rfl
    simp only [List.get_eq_getElem, hi, List.getElem_cons_zero]
  exact hget _ _ rfl hs

theorem isFirst_far (r : Fin 32 → EReal) : IsFirst r (far r) := by
  have hlen := length_sortPositions 32 (gtBefore r)
  rcases hs : sortPositions 32 (gtBefore r) with _ | ⟨h, t⟩
  · rw [hs] at hlen; simp at hlen
  · have hf : far r = h := sortedFrom_zero (gtBefore r) h t hs
    have := stableSort_head r (List.finRange 32) (List.pairwise_lt_finRange 32) h t hs
    rw [hf]
    exact ⟨fun g => this.2.1 g (List.mem_finRange g), fun g => this.2.2 g (List.mem_finRange g)⟩

/-- The running maximum from minus infinity is the element at the first greatest position. -/
theorem fold_max (r : Fin 32 → EReal) (a : Fin 32) (h : IsFirst r a) :
    Finset.fold max (Ideal.ofBits FTy.f32 4286578688#32) r Finset.univ = r a := by
  have hb : Ideal.ofBits FTy.f32 4286578688#32 = (⊥ : EReal) := by simp [Ideal.ofBits, Ideal.ieee]
  rw [hb]
  apply le_antisymm
  · exact (Finset.fold_max_le (r a)).mpr ⟨bot_le, fun g _ => h.1 g⟩
  · exact (Finset.le_fold_max (r a)).mpr (.inr ⟨a, Finset.mem_univ _, le_rfl⟩)

theorem minsi_toInt (x y : BitVec 32) : (IntOp.minsi x y).toInt = min x.toInt y.toInt := by
  unfold IntOp.minsi
  rw [BitVec.slt_eq_decide]
  by_cases h : x.toInt < y.toInt
  · simp [h, h.le]
  · simp [h, not_lt.mp h]

theorem toInt_small (g : Fin 32) : (BitVec.ofNat 32 g.val).toInt = g.val := by
  revert g; decide

/-- The least position of a greatest element, as the first pass computes it in 32-bit words. -/
theorem fold_min (r : Fin 32 → EReal) (a : Fin 32) (h : IsFirst r a) :
    Finset.fold IntOp.minsi (2147483647#32) (fun g : Fin 32 => if r g = r a then BitVec.ofNat 32 g.val else 32#32)
      Finset.univ = BitVec.ofNat 32 a.val := by
  apply BitVec.eq_of_toInt_eq
  rw [← Finset.fold_hom (op := IntOp.minsi) (op' := min) (m := BitVec.toInt) minsi_toInt, toInt_small]
  have ha := a.isLt
  apply le_antisymm
  · refine (Finset.fold_min_le _).mpr (.inr ⟨a, Finset.mem_univ _, ?_⟩)
    rw [if_pos rfl, toInt_small]
  · refine (Finset.le_fold_min _).mpr ⟨by rw [show (2147483647#32).toInt = 2147483647 from by decide]; omega, fun g _ => ?_⟩
    split
    · rename_i hg
      rw [toInt_small]
      by_contra hlt
      have hga : g < a := by rw [Fin.lt_def]; omega
      exact absurd hg (h.2 g hga).ne
    · simp

/-- A one-hot sum picks the marked element. -/
theorem sum_onehot {n : Nat} (hn : n ≤ 2 ^ 32) (a : Fin n) (x : Fin n → EReal) :
    ∑ g : Fin n, Scalar.select (IntOp.cmpi CmpIPredicate.eq (BitVec.ofNat 32 g.val) (BitVec.ofNat 32 a.val)) (x g) 0 = x a := by
  rw [Finset.sum_eq_single a]
  · simp [Scalar.select, IntOp.cmpi]
  · intro g _ hg
    have : BitVec.ofNat 32 g.val ≠ BitVec.ofNat 32 a.val := by
      intro hc
      have := congrArg BitVec.toNat hc
      simp only [BitVec.toNat_ofNat] at this
      rw [Nat.mod_eq_of_lt (by omega), Nat.mod_eq_of_lt (by omega)] at this
      exact hg (Fin.ext this)
    have hb : (BitVec.ofNat 32 g.val == BitVec.ofNat 32 a.val) = false := by rw [beq_eq_false_iff_ne]; exact this
    simp only [Scalar.select, IntOp.cmpi, hb]
    rfl
  · intro h; exact absurd (Finset.mem_univ a) h

/-- What the first pass computes: the element at the first greatest position. -/
theorem pick_far (r x : Fin 32 → EReal) :
    ∑ g : Fin 32, Scalar.select (IntOp.cmpi CmpIPredicate.eq (BitVec.ofNat 32 g.val)
      (Finset.fold IntOp.minsi (2147483647#32) (fun g : Fin 32 =>
        if r g = Finset.fold max (Ideal.ofBits FTy.f32 4286578688#32) r Finset.univ then BitVec.ofNat 32 g.val else 32#32)
        Finset.univ)) (x g) 0 = x (far r) := by
  rw [fold_max r _ (isFirst_far r), fold_min r _ (isFirst_far r), sum_onehot (by norm_num)]

/-! ## The arc cosine by the two-argument arc tangent -/

theorem acos_eq_atan2_real (x : ℝ) (h1 : -1 ≤ x) (h2 : x ≤ 1) :
    Ideal.acos (x : EReal) = Ideal.atan2 (Ideal.sqrt ((1 + (x : EReal)) * (1 - (x : EReal)))) (x : EReal) := by
  have hs : (1 + (x : EReal)) * (1 - (x : EReal)) = (((1 + x) * (1 - x) : ℝ) : EReal) := by
    push_cast; rfl
  have h0 : ¬ ((1 + x) * (1 - x) < 0) := not_lt.mpr (mul_nonneg (by linarith) (by linarith))
  have hq : Ideal.sqrt (((1 + x) * (1 - x) : ℝ) : EReal) = ((Real.sqrt (1 - x ^ 2) : ℝ) : EReal) := by
    show (if (1 + x) * (1 - x) < 0 then (⊥ : EReal) else ((Real.sqrt ((1 + x) * (1 - x)) : ℝ) : EReal)) = _
    rw [if_neg h0]; congr 2; ring
  rw [hs, hq]
  show (if -1 ≤ x ∧ x ≤ 1 then (Real.arccos x : EReal) else ⊥) = _
  rw [if_pos ⟨h1, h2⟩]
  unfold Ideal.atan2
  refine congrArg _ ?_
  have hnn := Real.sqrt_nonneg (1 - x ^ 2)
  rcases lt_trichotomy x 0 with hx | hx | hx
  · rw [if_neg hx.not_gt, if_pos hx, if_pos hnn]
    have := Real.arccos_eq_arctan (x := -x) (by linarith)
    rw [Real.arccos_neg, neg_sq, div_neg, Real.arctan_neg] at this
    linarith
  · subst hx
    simp
  · rw [if_pos hx, Real.arccos_eq_arctan hx]

theorem acos_eq_atan2 (x : EReal) (h1 : -1 ≤ x) (h2 : x ≤ 1) :
    Ideal.acos x = Ideal.atan2 (Ideal.sqrt ((1 + x) * (1 - x))) x := by
  induction x using EReal.rec with
  | bot => exact absurd h1 (by rw [not_le]; exact EReal.bot_lt_coe (-1))
  | top => exact absurd h2 (by rw [not_le]; exact EReal.coe_lt_top 1)
  | coe x =>
    have h1' : ((-1 : ℝ) : EReal) ≤ (x : EReal) := by rw [EReal.coe_neg]; exact h1
    exact acos_eq_atan2_real x (EReal.coe_le_coe_iff.mp h1') (by exact_mod_cast h2)

end Cert.Maths
end
-- ==== Proof.Pass1.lean ====
/- The value of the kernel's first pass: for every point, the coordinates of its farthest neighbour. -/
module

public import proofs.«01_k».proof.Proof.Gen.KernelIdeal.Frame
public import proofs.«01_k».proof.Proof.Maths

@[expose] public section

set_option maxRecDepth 16384

noncomputable section

namespace Cert.Pass1

open Idealize.ShloMosaic Idealize.SL.Sem Cert.KernelIdeal Cert.Maths

/-- The length of a vector of three coordinates, squares summed from the left. -/
def len3 (x y z : EReal) : EReal := Ideal.sqrt (x * x + y * y + z * z)

/-- For each point, each coordinate of the farthest of its 32 neighbours. -/
def farVec (x : FVec Ideal S3x32x65536 .f32) : FVec Ideal S3x65536 .f32 := fun i =>
  x (ix3 (i 0) (far fun g => len3 (x (ix3 0 g (i 1))) (x (ix3 1 g (i 1))) (x (ix3 2 g (i 1)))) (i 1))

theorem pay_apply (a b c : Vec Ideal S1x32x2048 .f32) (k : Fin 3) (j : Fin 2048) :
    Gen.k0_pay1 a b c (ix2 k j) = (![a, b, c] k)
      (ix3 0 (far fun g => len3 (a (ix3 0 g j)) (b (ix3 0 g j)) (c (ix3 0 g j))) j) := by
  have h := pick_far fun g => len3 (a (ix3 0 g j)) (b (ix3 0 g j)) (c (ix3 0 g j))
  unfold len3 at h ⊢
  generalize far _ = f at h ⊢
  match k with
  | 0 => pointwise [Gen.k0_pay1]; exact h fun g => a (ix3 0 g j)
  | 1 => pointwise [Gen.k0_pay1]; exact h fun g => b (ix3 0 g j)
  | 2 => pointwise [Gen.k0_pay1]; exact h fun g => c (ix3 0 g j)

variable (V : (c : Dev nD) → (b : Ref sig .tc) → Buf (Elt Ideal) (c.tc.loc b))

theorem idx (t : Fin cfg0.grid.N) : win0_0.index t = ![0, 0, t.val] ∧ win0_1.index t = ![0, t.val] := by
  revert t; decide +kernel

/-- A load of the input block reads the array at the block's place. -/
theorem blk (c : Dev nD) (t : Fin cfg0.grid.N) (k : Fin 3) (g : Fin 32) (j : Fin 2048) (h : t.val * 2048 + j.val < 65536) :
    Gen.iblk0 V c 0 t (ix3 k g j) = V c main_v1 (ix3 k g ⟨t.val * 2048 + j.val, h⟩) := by
  blk_ext [Gen.iblk0, idx t]

theorem place (t : Fin cfg0.grid.N) (k : Fin 3) (j : Fin 2048) (h : t.val * 2048 + j.val < 65536) :
    ((View.whole main_v3).slice (win0_1.rect t)).emb (ix2 k j) = ix2 k ⟨t.val * 2048 + j.val, h⟩ := by
  blk_ext [idx t]

/-- The first pass leaves `farVec` of its input array. -/
theorem arr (c : Dev nD) : (Gen.dat0 (F := Ideal) V c).arrAt 1 cfg0.N = farVec (V c main_v1) := by
  refine (Gen.dat0 V c).arrAt_eq_of_covers 1 _ (by decide +kernel) fun t hf y => ?_
  blk_simp
  rw [Gen.after0_1]
  frame_out
  idx_vars y
  have ht : t.val < 32 := t.isLt
  have h : t.val * 2048 + y1.val < 65536 := by omega
  rw [pay_apply, place t y0 y1 h]
  have h0 : ∀ g, View.ld (Gen.iblk0 V c 0 t) Gen.r0_0 (ix3 0 g y1) = V c main_v1 (ix3 0 g ⟨t.val * 2048 + y1.val, h⟩) := by
    intro g; rw [← blk V c t 0 g y1 h]; pointwise
  have h1 : ∀ g, View.ld (Gen.iblk0 V c 0 t) Gen.r0_1 (ix3 0 g y1) = V c main_v1 (ix3 1 g ⟨t.val * 2048 + y1.val, h⟩) := by
    intro g; rw [← blk V c t 1 g y1 h]; pointwise
  have h2 : ∀ g, View.ld (Gen.iblk0 V c 0 t) Gen.r0_2 (ix3 0 g y1) = V c main_v1 (ix3 2 g ⟨t.val * 2048 + y1.val, h⟩) := by
    intro g; rw [← blk V c t 2 g y1 h]; pointwise
  simp only [h0, h1, h2]
  match y0 with
  | 0 => exact h0 _
  | 1 => exact h1 _
  | 2 => exact h2 _

end Cert.Pass1
end
-- ==== Proof.Pass2.lean ====
/- The body of the kernel's second pass, its repeated rows and rounds gathered into one list and one fold. -/
module

public import proofs.«01_k».proof.Proof.Gen.KernelIdeal.Frame
public import proofs.«01_k».proof.Proof.Maths

@[expose] public section

set_option maxRecDepth 16384

noncomputable section

namespace Cert.Pass2

open Idealize.ShloMosaic Idealize.SL.Sem Cert.KernelIdeal Cert.KernelIdeal.Gen Cert.Maths

/-- The zero block. -/
def zero : FVec Ideal S32x512 .f32 := broadcast S32x512 (Scalar.ofBits .f32 0x00000000#32)

/-- One row of the histogram: the sum over the neighbours in bin `i` of one feature. -/
def row (f : FVec Ideal S32x512 .f32) (B : IVec S32x512 32) (i : BitVec 32) : FVec Ideal S1x512 .f32 :=
  shapeCast S1x512 (multiReduction .add [0] S512 (select (cmpi .eq B (broadcast S32x512 i)) f zero) 0x00000000#32
    reduces_S32x512_S512 (.inl rfl) rfl) shapeCasts_S512_S1x512

/-- The four features of a neighbour. -/
def feat (X Y Z H : FVec Ideal S32x512 .f32) : Fin 4 → FVec Ideal S32x512 .f32
  | 0 => X
  | 1 => Y
  | 2 => Z
  | 3 => H

/-- Row `4 b + c` of the histogram: feature `c` in bin `b`. -/
def rowAt (X Y Z H : FVec Ideal S32x512 .f32) (B : IVec S32x512 32) (q : Fin 144) : FVec Ideal S1x512 .f32 :=
  row (feat X Y Z H ⟨q.val % 4, Nat.mod_lt _ (by decide)⟩) B (BitVec.ofNat 32 (q.val / 4))

theorem cats (X Y Z H : FVec Ideal S32x512 .f32) (B : IVec S32x512 32) :
    Shape.Concatenates ((List.ofFn fun q : Fin 144 => (⟨S1x512, rowAt X Y Z H B q⟩ : (s : Shape) × (s.Idx → Ideal .f32))).map (·.1))
      S144x512 0 := by
  rw [List.map_ofFn]
  exact (by decide +kernel : Shape.Concatenates (List.ofFn fun _ : Fin 144 => S1x512) S144x512 0)

/-- The histogram, one row over another. -/
def hist (X Y Z H : FVec Ideal S32x512 .f32) (B : IVec S32x512 32) : FVec Ideal S144x512 .f32 :=
  concatenate S144x512 0 (List.ofFn fun q : Fin 144 => (⟨S1x512, rowAt X Y Z H B q⟩ : (s : Shape) × (s.Idx → Ideal .f32)))
    (cats X Y Z H B)

/-- The convolution of the histogram: one matrix product and a bias. -/
def conv (X Y Z H : FVec Ideal S32x512 .f32) (B : IVec S32x512 32) (M : FVec Ideal S36x144 .bf16) (b : FVec Ideal S1x1 .f32) :
    FVec Ideal S36x512 .f32 :=
  addf (matmul dot_S36x144_S144x512_S36x512_1_0_0_1_n_n none (shapeCast S36x144 M shapeCasts_S36x144_S36x144)
    (truncf .bf16 (hist X Y Z H B) bitsLt_bf16_f32) (constant S36x512 .f32 0x00000000#32))
    (broadcast S36x512 (extractAt ![0, 0] b inpos_S1x1_p0_0))

theorem slices (o : Fin 36) : S36x512.Slices ![o.val, 0] S1x512 := by revert o; decide

/-- One round of the read-back: where the bin is `o`, add row `o` of the convolution. -/
def round (B : IVec S32x512 32) (y : FVec Ideal S36x512 .f32) (acc : FVec Ideal S32x512 .f32) (o : Fin 36) :
    FVec Ideal S32x512 .f32 :=
  addf acc (select (cmpi .eq B (broadcast S32x512 (BitVec.ofNat 32 o.val)))
    (broadcastTo S32x512 (shapeCast S1x512 (shapeCast S1x512 (shapeCast S512
      (extractStridedSlice S1x512 ![o.val, 0] y (slices o)) shapeCasts_S1x512_S512) shapeCasts_S512_S1x512)
      shapeCasts_S1x512_S1x512) broadcasts_S1x512_S32x512) zero)

/-- The rounds one after another. -/
def rounds (B : IVec S32x512 32) (y : FVec Ideal S36x512 .f32) : FVec Ideal S32x512 .f32 :=
  (List.finRange 36).foldl (round B y) zero

variable (x0 : Vec Ideal S3x32x512 .bf16) (x1 : Vec Ideal S9x512 .bf16) (x2 : Vec Ideal S36x144 .bf16) (x3 : Vec Ideal S1x1 .f32)

theorem conv_eq : k1_pay367 x0 x1 x2 x3 = conv (k1_pay218 x0 x1 x2 x3) (k1_pay219 x0 x1 x2 x3) (k1_pay220 x0 x1 x2 x3)
    (k1_pay224 x0 x1 x2 x3) (k1_pay222 x0 x1 x2 x3) (View.ld x2 r1_12) (View.ld x3 r1_13) := by
  rfl

/-- The body's output block. -/
theorem out_eq : out1_4 x0 x1 x2 x3 = View.canon [⟨r1_14, rounds (k1_pay222 x0 x1 x2 x3) (k1_pay367 x0 x1 x2 x3)⟩] := by
  rfl

end Cert.Pass2
end
-- ==== Proof.Spec.lean ====
/- What both programs compute at one point, over the extended reals: its 32 rotated neighbours, the spherical bin of each,
   the histogram of their features over the bins, and the histogram's convolution. -/
module

public import proofs.«01_k».proof.Proof.Maths

@[expose] public section

noncomputable section

namespace Cert.Spec

open Idealize.ShloMosaic Cert.Maths

/-! ## Words clipped to six values -/

theorem clip_toInt (w : BitVec 32) : 0 ≤ (IntOp.minsi 5#32 (IntOp.maxsi 0#32 w)).toInt ∧ (IntOp.minsi 5#32 (IntOp.maxsi 0#32 w)).toInt ≤ 5 := by
  have hmax : (IntOp.maxsi 0#32 w).toInt = max 0 w.toInt := by
    unfold IntOp.maxsi
    rw [BitVec.slt_eq_decide]
    rw [show (0#32 : BitVec 32).toInt = 0 from by decide]
    by_cases h : w.toInt < 0
    · rw [decide_eq_true h, if_pos rfl, max_eq_left h.le]; decide
    · rw [decide_eq_false h, if_neg (by decide), max_eq_right (not_lt.mp h)]
  rw [minsi_toInt, hmax]
  have h5 : (5#32).toInt = 5 := by decide
  omega

/-- The word clipped between 0 and 5, as a number below six. -/
def clip (w : BitVec 32) : Fin 6 := ⟨(IntOp.minsi 5#32 (IntOp.maxsi 0#32 w)).toNat, by
  have h := clip_toInt w
  rw [BitVec.toInt_eq_toNat_cond] at h
  split at h <;> omega⟩

theorem clip_eq (w : BitVec 32) : IntOp.minsi 5#32 (IntOp.maxsi 0#32 w) = BitVec.ofNat 32 (clip w).val := by
  unfold clip
  simp

/-! ## One rotated neighbour -/

/-- The distance, kept above a small constant. -/
def rho (X Y Z : EReal) : EReal := max (Ideal.sqrt (X * X + Y * Y + Z * Z)) (Ideal.ofBits FTy.f32 730643660#32)

/-- The cosine of the polar angle, kept just inside [-1, 1]. -/
def rc (X Y Z : EReal) : EReal :=
  min (Ideal.ofBits FTy.f32 0x3F7FFFEF#32) (max (Ideal.ofBits FTy.f32 0xBF7FFFEF#32) (Ideal.div Z (rho X Y Z)))

/-- The polar bin. -/
def it (X Y Z : EReal) : Fin 6 := clip (FloatOps.fptosi (F := Ideal) (φ := .f32) 32
  (Ideal.liftRound Int.floor (Ideal.div (Ideal.acos (rc X Y Z)) (Ideal.ofBits FTy.f32 1057360530#32))))

/-- The remainder of the azimuth over the full turn. -/
def turn (X Y : EReal) : EReal :=
  Ideal.remf (Ideal.atan2 Y X + Ideal.ofBits FTy.f32 1086918619#32) (Ideal.ofBits FTy.f32 1086918619#32)

/-- The azimuth, from 0 up to the full turn. -/
def phi (X Y : EReal) : EReal :=
  Scalar.select (IntOp.andi (IntOp.xori (BitVec.ofBool (decide (turn X Y < 0)))
      (BitVec.ofBool (decide (Ideal.ofBits FTy.f32 1086918619#32 < 0)))) (BitVec.ofBool (decide (turn X Y ≠ 0))))
    (turn X Y + Ideal.ofBits FTy.f32 1086918619#32) (turn X Y)

/-- The azimuthal bin. -/
def ip (X Y : EReal) : Fin 6 := clip (FloatOps.fptosi (F := Ideal) (φ := .f32) 32
  (Ideal.liftRound Int.floor (Ideal.div (phi X Y) (Ideal.ofBits FTy.f32 1065749138#32))))

/-- The fourth feature: how near the neighbour is against the farthest, `r` its distance and `R` the greatest. -/
def near (r R : EReal) : EReal :=
  max (Ideal.ofBits FTy.f32 1056964608#32
    - Ideal.div r (Ideal.ofBits FTy.f32 1073741824#32 * (R + Ideal.ofBits FTy.f32 730643660#32))) 0
  + Ideal.ofBits FTy.f32 1056964608#32

/-! ## One point -/

/-- A coordinate of a neighbour after the rotation whose row is `r0 r1 r2`. -/
def rot (x y z r0 r1 r2 : EReal) : EReal := x * r0 + y * r1 + z * r2

/-- Feature `c` of neighbour `g`: its three rotated coordinates and its nearness. -/
def feat (P : Fin 32 → Fin 3 → EReal) (c : Fin 4) (g : Fin 32) : EReal :=
  match c with
  | 0 => P g 0
  | 1 => P g 1
  | 2 => P g 2
  | 3 => near (rho (P g 0) (P g 1) (P g 2))
      (Finset.fold max (Ideal.ofBits FTy.f32 4286578688#32) (fun g => rho (P g 0) (P g 1) (P g 2)) Finset.univ)

/-- The polar and the azimuthal bin of neighbour `g`. -/
def itOf (P : Fin 32 → Fin 3 → EReal) (g : Fin 32) : Fin 6 := it (P g 0) (P g 1) (P g 2)
def ipOf (P : Fin 32 → Fin 3 → EReal) (g : Fin 32) : Fin 6 := ip (P g 0) (P g 1)

/-- Feature `c` summed over the neighbours in bin `(a, b)`. -/
def hist (P : Fin 32 → Fin 3 → EReal) (a b : Fin 6) (c : Fin 4) : EReal :=
  ∑ g : Fin 32, if itOf P g = a ∧ ipOf P g = b then feat P c g else 0

/-- The six by six bins as one number. -/
def bin (a b : Fin 6) : Fin 36 := ⟨a.val * 6 + b.val, by omega⟩

/-- The kernel's row of the histogram. -/
def histRow (P : Fin 32 → Fin 3 → EReal) (q : Fin 144) : EReal :=
  hist P ⟨q.val / 24, by omega⟩ ⟨q.val / 4 % 6, by omega⟩ ⟨q.val % 4, by omega⟩

theorem word_bin (a b : Fin 6) : IntOp.addi (IntOp.muli (BitVec.ofNat 32 a.val) 6#32) (BitVec.ofNat 32 b.val)
    = BitVec.ofNat 32 (bin a b).val := by
  revert a b; decide

theorem word_eq_iff (a b : Fin 36) : IntOp.cmpi CmpIPredicate.eq (BitVec.ofNat 32 a.val) (BitVec.ofNat 32 b.val)
    = BitVec.ofBool (decide (a = b)) := by
  revert a b; decide

theorem bin_eq_iff (a b : Fin 6) (q : Fin 36) : bin a b = q ↔ a = ⟨q.val / 6, by omega⟩ ∧ b = ⟨q.val % 6, by omega⟩ := by
  simp only [bin, Fin.ext_iff]
  omega

theorem bit_select {α : Type} (p : Prop) [Decidable p] (x y : α) :
    Scalar.select (BitVec.ofBool (decide p)) x y = if p then x else y := by
  by_cases h : p <;> simp [Scalar.select, h]

/-- The cosine lies in [-1, 1]. -/
theorem rc_bounds (X Y Z : EReal) : -1 ≤ rc X Y Z ∧ rc X Y Z ≤ 1 := by
  have hlo : Ideal.ofBits FTy.f32 0xBF7FFFEF#32 = ((-(16777199 / 16777216) : ℝ) : EReal) := by
    simp [Ideal.ofBits, Ideal.ieee]
    norm_num
    rw [← EReal.coe_mul]
    norm_num
  have hhi : Ideal.ofBits FTy.f32 0x3F7FFFEF#32 = ((16777199 / 16777216 : ℝ) : EReal) := by
    simp [Ideal.ofBits, Ideal.ieee]
    norm_num
    rw [← EReal.coe_mul]
    norm_num
  have h1 : (1 : EReal) = ((1 : ℝ) : EReal) := rfl
  have hm1 : (-1 : EReal) = ((-1 : ℝ) : EReal) := rfl
  unfold rc
  rw [hlo, hhi]
  constructor
  · refine le_min ?_ (le_max_of_le_left ?_)
    · rw [hm1, EReal.coe_le_coe_iff]; norm_num
    · rw [hm1, EReal.coe_le_coe_iff]; norm_num
  · refine min_le_of_left_le ?_
    rw [h1, EReal.coe_le_coe_iff]; norm_num

theorem acos_rc (X Y Z : EReal) :
    Ideal.atan2 (Ideal.sqrt ((1 + rc X Y Z) * (1 - rc X Y Z))) (rc X Y Z) = Ideal.acos (rc X Y Z) :=
  (acos_eq_atan2 _ (rc_bounds X Y Z).1 (rc_bounds X Y Z).2).symm

end Cert.Spec
end
-- ==== Proof.Pass2Value.lean ====
/- The value of the kernel's second pass. -/
module

public import proofs.«01_k».proof.Proof.Pass2
public import proofs.«01_k».proof.Proof.Spec

@[expose] public section

set_option maxRecDepth 16384

noncomputable section

namespace Cert.Pass2

open Idealize.ShloMosaic Idealize.SL.Sem Cert.KernelIdeal Cert.KernelIdeal.Gen Cert.Maths

/-- The rotated neighbours of a point: coordinates `x g k` of neighbour `g`, the rotation's nine entries `r`. -/
def pts (x : Fin 3 → Fin 32 → EReal) (r : Fin 9 → EReal) (g : Fin 32) (k : Fin 3) : EReal :=
  Spec.rot (x 0 g) (x 1 g) (x 2 g) (r ⟨3 * k.val, by omega⟩) (r ⟨3 * k.val + 1, by omega⟩) (r ⟨3 * k.val + 2, by omega⟩)

section block
variable (x0 : Vec Ideal S3x32x512 .bf16) (x1 : Vec Ideal S9x512 .bf16) (x2 : Vec Ideal S36x144 .bf16) (x3 : Vec Ideal S1x1 .f32)

/-- The rotated neighbours of the block's point `j`. -/
abbrev bp (j : Fin 512) : Fin 32 → Fin 3 → EReal := pts (fun k g => x0 (ix3 k g j)) (fun i => x1 (ix2 i j))

theorem x_apply (g : Fin 32) (j : Fin 512) : k1_pay218 x0 x1 x2 x3 (ix2 g j) = bp x0 x1 j g 0 := by
  pointwise [k1_pay218, k1_pay12, k1_pay208, k1_pay209, k1_pay210, k1_pay211, k1_pay212, k1_pay213, k1_pay2, k1_pay3, k1_pay4, k1_pay5, k1_pay6, k1_pay7]
  rfl

theorem y_apply (g : Fin 32) (j : Fin 512) : k1_pay219 x0 x1 x2 x3 (ix2 g j) = bp x0 x1 j g 1 := by
  pointwise [k1_pay219, k1_pay13, k1_pay208, k1_pay209, k1_pay210, k1_pay214, k1_pay215, k1_pay216, k1_pay2, k1_pay3, k1_pay4, k1_pay8, k1_pay9, k1_pay10]
  rfl

theorem z_apply (g : Fin 32) (j : Fin 512) : k1_pay220 x0 x1 x2 x3 (ix2 g j) = bp x0 x1 j g 2 := by
  pointwise [k1_pay220, k1_pay14, k1_pay208, k1_pay209, k1_pay210, k1_pay217, k1_pay2, k1_pay3, k1_pay4, k1_pay11]
  rfl

theorem rho_apply (g : Fin 32) (j : Fin 512) :
    k1_pay221 x0 x1 x2 x3 (ix2 g j) = Spec.rho (bp x0 x1 j g 0) (bp x0 x1 j g 1) (bp x0 x1 j g 2) := by
  rw [← x_apply x0 x1 x2 x3, ← y_apply x0 x1 x2 x3, ← z_apply x0 x1 x2 x3]
  pointwise [k1_pay221, k1_pay15]
  rfl

theorem near_apply (g : Fin 32) (j : Fin 512) : k1_pay224 x0 x1 x2 x3 (ix2 g j) = Spec.feat (bp x0 x1 j) 3 g := by
  pointwise [k1_pay224, k1_pay20, k1_pay223, k1_pay19]
  simp only [rho_apply]
  rfl

/-- The vector of cosines. -/
abbrev cosv : FVec Ideal S32x512 .f32 :=
  k1_pay16 (k1_pay208 x0 x1 x2 x3) (k1_pay209 x0 x1 x2 x3) (k1_pay210 x0 x1 x2 x3) (k1_pay211 x0 x1 x2 x3) (k1_pay212 x0 x1 x2 x3)
    (k1_pay213 x0 x1 x2 x3) (k1_pay214 x0 x1 x2 x3) (k1_pay215 x0 x1 x2 x3) (k1_pay216 x0 x1 x2 x3) (k1_pay217 x0 x1 x2 x3)
    (View.ld x1 r1_10) (View.ld x1 r1_11)

/-- The vector of one minus the squared cosine, as the kernel writes it. -/
abbrev sinv : FVec Ideal S32x512 .f32 :=
  k1_pay17 (k1_pay208 x0 x1 x2 x3) (k1_pay209 x0 x1 x2 x3) (k1_pay210 x0 x1 x2 x3) (k1_pay211 x0 x1 x2 x3) (k1_pay212 x0 x1 x2 x3)
    (k1_pay213 x0 x1 x2 x3) (k1_pay214 x0 x1 x2 x3) (k1_pay215 x0 x1 x2 x3) (k1_pay216 x0 x1 x2 x3) (k1_pay217 x0 x1 x2 x3)
    (View.ld x1 r1_10) (View.ld x1 r1_11)

theorem cos_apply (g : Fin 32) (j : Fin 512) :
    cosv x0 x1 x2 x3 (ix2 g j) = Spec.rc (bp x0 x1 j g 0) (bp x0 x1 j g 1) (bp x0 x1 j g 2) := by
  have h : k1_pay16 (k1_pay208 x0 x1 x2 x3) (k1_pay209 x0 x1 x2 x3) (k1_pay210 x0 x1 x2 x3) (k1_pay211 x0 x1 x2 x3) (k1_pay212 x0 x1 x2 x3)
    (k1_pay213 x0 x1 x2 x3) (k1_pay214 x0 x1 x2 x3) (k1_pay215 x0 x1 x2 x3) (k1_pay216 x0 x1 x2 x3) (k1_pay217 x0 x1 x2 x3)
    (View.ld x1 r1_10) (View.ld x1 r1_11) (ix2 g j) = min (Ideal.ofBits FTy.f32 0x3F7FFFEF#32) (max (Ideal.ofBits FTy.f32 0xBF7FFFEF#32)
      (Ideal.div (k1_pay220 x0 x1 x2 x3 (ix2 g j)) (k1_pay221 x0 x1 x2 x3 (ix2 g j)))) := by
    pointwise [k1_pay16]
    rfl
  rw [z_apply, rho_apply] at h
  exact h

theorem sin_apply (g : Fin 32) (j : Fin 512) :
    sinv x0 x1 x2 x3 (ix2 g j) = (1 + cosv x0 x1 x2 x3 (ix2 g j)) * (1 - cosv x0 x1 x2 x3 (ix2 g j)) := by
  pointwise [k1_pay17]

theorem bin_apply (g : Fin 32) (j : Fin 512) :
    k1_pay222 x0 x1 x2 x3 (ix2 g j) = BitVec.ofNat 32 (Spec.bin (Spec.itOf (bp x0 x1 j) g) (Spec.ipOf (bp x0 x1 j) g)).val := by
  rw [← Spec.word_bin]
  have h : k1_pay222 x0 x1 x2 x3 = k1_pay18 (k1_pay218 x0 x1 x2 x3) (k1_pay219 x0 x1 x2 x3) (cosv x0 x1 x2 x3) (sinv x0 x1 x2 x3) := rfl
  rw [h]
  have hs := sin_apply x0 x1 x2 x3 g j
  have hc := cos_apply x0 x1 x2 x3 g j
  have hx := x_apply x0 x1 x2 x3 g j
  have hy := y_apply x0 x1 x2 x3 g j
  generalize sinv x0 x1 x2 x3 = S at hs ⊢
  generalize cosv x0 x1 x2 x3 = C at hs hc ⊢
  generalize k1_pay218 x0 x1 x2 x3 = X at hx ⊢
  generalize k1_pay219 x0 x1 x2 x3 = Y at hy ⊢
  pointwise [k1_pay18]
  rw [hs, hc, hx, hy, Spec.acos_rc, Spec.clip_eq, Spec.clip_eq]
  rfl

theorem feat_apply (c : Fin 4) (g : Fin 32) (j : Fin 512) :
    feat (k1_pay218 x0 x1 x2 x3) (k1_pay219 x0 x1 x2 x3) (k1_pay220 x0 x1 x2 x3) (k1_pay224 x0 x1 x2 x3) c (ix2 g j)
      = Spec.feat (bp x0 x1 j) c g := by
  match c with
  | 0 => exact x_apply x0 x1 x2 x3 g j
  | 1 => exact y_apply x0 x1 x2 x3 g j
  | 2 => exact z_apply x0 x1 x2 x3 g j
  | 3 => exact near_apply x0 x1 x2 x3 g j

theorem row_apply (f : FVec Ideal S32x512 .f32) (B : IVec S32x512 32) (i : BitVec 32) (j : Fin 512) :
    row f B i (ix2 0 j) = ∑ g : Fin 32, Scalar.select (IntOp.cmpi .eq (B (ix2 g j)) i) (f (ix2 g j)) 0 := by
  pointwise [row, zero]

theorem hist_apply (q : Fin 144) (j : Fin 512) :
    hist (k1_pay218 x0 x1 x2 x3) (k1_pay219 x0 x1 x2 x3) (k1_pay220 x0 x1 x2 x3) (k1_pay224 x0 x1 x2 x3) (k1_pay222 x0 x1 x2 x3) (ix2 q j)
      = Spec.histRow (bp x0 x1 j) q := by
  unfold hist
  rw [concatenate_ofFn_unit_apply (t := S144x512) (s₁ := S1x512) 0 _ _ rfl rfl (ix2 q j) q rfl (ix2 0 j) (fun b hb => match b, hb with
    | 0, hb => absurd rfl hb
    | 1, _ => rfl)]
  unfold rowAt
  rw [row_apply]
  unfold Spec.histRow Spec.hist
  refine Finset.sum_congr rfl fun g _ => ?_
  have hq : q.val / 4 < 36 := by omega
  rw [feat_apply, bin_apply, Spec.word_eq_iff _ ⟨q.val / 4, hq⟩, Spec.bit_select]
  simp only [Spec.bin_eq_iff]
  have e1 : q.val / 4 / 6 = q.val / 24 := by omega
  simp only [e1]

theorem conv_apply (X Y Z H : FVec Ideal S32x512 .f32) (B : IVec S32x512 32) (M : FVec Ideal S36x144 .bf16) (b : FVec Ideal S1x1 .f32)
    (o : Fin 36) (j : Fin 512) :
    conv X Y Z H B M b (ix2 o j) = (∑ q : Fin 144, M (ix2 o q) * hist X Y Z H B (ix2 q j)) + b (ix2 0 0) := by
  unfold conv
  generalize hist X Y Z H B = h
  pointwise

theorem round_apply (B : IVec S32x512 32) (y : FVec Ideal S36x512 .f32) (acc : FVec Ideal S32x512 .f32) (o : Fin 36) (g : Fin 32)
    (j : Fin 512) : round B y acc o (ix2 g j)
      = acc (ix2 g j) + Scalar.select (IntOp.cmpi .eq (B (ix2 g j)) (BitVec.ofNat 32 o.val)) (y (ix2 o j)) 0 := by
  pointwise [round, zero]

theorem foldl_apply (B : IVec S32x512 32) (y : FVec Ideal S36x512 .f32) (l : List (Fin 36)) (acc : FVec Ideal S32x512 .f32) (g : Fin 32)
    (j : Fin 512) : l.foldl (round B y) acc (ix2 g j)
      = acc (ix2 g j) + (l.map fun o => Scalar.select (IntOp.cmpi .eq (B (ix2 g j)) (BitVec.ofNat 32 o.val)) (y (ix2 o j)) 0).sum := by
  induction l generalizing acc with
  | nil => simp
  | cons o l ih => rw [List.foldl_cons, ih, round_apply, List.map_cons, List.sum_cons, add_assoc]

theorem rounds_apply (B : IVec S32x512 32) (y : FVec Ideal S36x512 .f32) (g : Fin 32) (j : Fin 512) (o : Fin 36)
    (h : B (ix2 g j) = BitVec.ofNat 32 o.val) : rounds B y (ix2 g j) = y (ix2 o j) := by
  unfold rounds
  rw [foldl_apply, h, ← Fin.sum_univ_def]
  simp only [Spec.word_eq_iff, Spec.bit_select]
  rw [Finset.sum_ite_eq, if_pos (Finset.mem_univ _)]
  pointwise [zero]

/-- The output block at neighbour `g` of point `j`. -/
theorem out_apply (g : Fin 32) (j : Fin 512) : out1_4 x0 x1 x2 x3 (ix2 g j)
    = (∑ q : Fin 144, x2 (ix2 (Spec.bin (Spec.itOf (bp x0 x1 j) g) (Spec.ipOf (bp x0 x1 j) g)) q) * Spec.histRow (bp x0 x1 j) q)
      + x3 (ix2 0 0) := by
  rw [out_eq]
  frame_out
  rw [rounds_apply _ _ g j _ (bin_apply x0 x1 x2 x3 g j), conv_eq, conv_apply]
  simp only [hist_apply]
  pointwise

end block

variable (V : (c : Dev nD) → (b : Ref sig .tc) → Buf (Elt Ideal) (c.tc.loc b))

theorem idx (t : Fin cfg1.grid.N) : win1_0.index t = ![0, 0, t.val] ∧ win1_1.index t = ![0, t.val] ∧ win1_2.index t = ![0, 0]
    ∧ win1_3.index t = ![0, 0] ∧ win1_4.index t = ![0, t.val] := by
  revert t; decide +kernel

theorem blk0 (c : Dev nD) (t : Fin cfg1.grid.N) (k : Fin 3) (g : Fin 32) (j : Fin 512) (h : t.val * 512 + j.val < 65536) :
    Gen.iblk1 V c 0 t (ix3 k g j) = V c main_v2 (ix3 k g ⟨t.val * 512 + j.val, h⟩) := by
  blk_ext [Gen.iblk1, idx t]

theorem blk1 (c : Dev nD) (t : Fin cfg1.grid.N) (i : Fin 9) (j : Fin 512) (h : t.val * 512 + j.val < 65536) :
    Gen.iblk1 V c 1 t (ix2 i j) = V c main_v111 (ix2 i ⟨t.val * 512 + j.val, h⟩) := by
  blk_ext [Gen.iblk1, idx t]

theorem blk2 (c : Dev nD) (t : Fin cfg1.grid.N) (o : Fin 36) (q : Fin 144) :
    Gen.iblk1 V c 2 t (ix2 o q) = V c main_v130 (ix2 o q) := by
  blk_ext [Gen.iblk1, idx t]

theorem blk3 (c : Dev nD) (t : Fin cfg1.grid.N) : Gen.iblk1 V c 3 t (ix2 0 0) = V c main_v131 (ix2 0 0) := by
  blk_ext [Gen.iblk1, idx t]

theorem place (t : Fin cfg1.grid.N) (g : Fin 32) (j : Fin 512) (h : t.val * 512 + j.val < 65536) :
    ((View.whole main_v132).slice (win1_4.rect t)).emb (ix2 g j) = ix2 g ⟨t.val * 512 + j.val, h⟩ := by
  blk_ext [idx t]

/-- The rotated neighbours of point `n`. -/
abbrev pn (x : FVec Ideal S3x32x65536 .bf16) (r : FVec Ideal S9x65536 .bf16) (n : Fin 65536) : Fin 32 → Fin 3 → EReal :=
  pts (fun k g => x (ix3 k g n)) (fun i => r (ix2 i n))

/-- For each neighbour of each point, the convolved histogram read at the neighbour's bin. -/
def outT (x : FVec Ideal S3x32x65536 .bf16) (r : FVec Ideal S9x65536 .bf16) (M : FVec Ideal S36x144 .bf16) (b : FVec Ideal S1x1 .f32) :
    FVec Ideal S32x65536 .f32 := fun i =>
  (∑ q : Fin 144, M (ix2 (Spec.bin (Spec.itOf (pn x r (i 1)) (i 0)) (Spec.ipOf (pn x r (i 1)) (i 0))) q) * Spec.histRow (pn x r (i 1)) q)
    + b (ix2 0 0)

/-- The second pass leaves `outT` of its input arrays. -/
theorem arr (c : Dev nD) : (Gen.dat1 (F := Ideal) V c).arrAt 4 cfg1.N
    = outT (V c main_v2) (V c main_v111) (V c main_v130) (V c main_v131) := by
  refine (Gen.dat1 V c).arrAt_eq_of_covers 4 _ (by decide +kernel) fun t hf y => ?_
  blk_simp
  rw [Gen.after1_4]
  idx_vars y
  have ht : t.val < 128 := t.isLt
  have h : t.val * 512 + y1.val < 65536 := by omega
  rw [place t y0 y1 h]
  refine (out_apply _ _ _ _ y0 y1).trans ?_
  simp only [bp, blk0 V c t _ _ y1 h, blk1 V c t _ y1 h, blk2, blk3]
  rfl

end Cert.Pass2
end
-- ==== Proof.KHost.lean ====
/- The kernel's result array as a function of its arguments: the host's operations before, between and after the two passes. -/
module

public import proofs.«01_k».proof.Proof.Rot
public import proofs.«01_k».proof.Proof.Pass1
public import proofs.«01_k».proof.Proof.Pass2Value

@[expose] public section

set_option maxRecDepth 16384

noncomputable section

namespace Cert.KHost

open Idealize.ShloMosaic Idealize.ShloMosaic.TcCoe Idealize.ShloMosaic.Tactic
open Idealize.SL.Sem
open Cert.KernelIdeal Cert.KernelIdeal.Gen

/-- The neighbours laid out coordinate by coordinate. -/
def coords (dp : FVec Ideal S8x3x8192x32 .f32) : FVec Ideal S3x32x65536 .f32 :=
  shapeCast _ (transpose S3x32x8x8192 [1, 3, 0, 2] dp transposes_S8x3x8192x32_S3x32x8x8192_1_3_0_2) shapeCasts_S3x32x8x8192_S3x32x65536

/-- The far point of every neighbourhood, one per row. -/
def fars (dp : FVec Ideal S8x3x8192x32 .f32) : FVec Ideal S65536x3 .f32 :=
  transpose S65536x3 [1, 0] (Pass1.farVec (coords dp)) transposes_S3x65536_S65536x3_1_0

/-- The rotations, one per column. -/
def rots (dp : FVec Ideal S8x3x8192x32 .f32) : FVec Ideal S9x65536 .f32 :=
  transpose S9x65536 [1, 0] (shapeCast _ (Rot.align (fars dp)) shapeCasts_S65536x3x3_S65536x9) transposes_S65536x9_S9x65536_1_0

/-- A table of places `t`, those the mask `z` marks moved up by `k`. -/
def wrapped (k : BitVec 32) (z : IVec S2880 1) (t : IVec S2880 32) : IVec S2880 32 :=
  select z (addi t (broadcastInDim S2880 ![] bcast_S_S2880 (constantI S_ 32 k))) t

def tapTab : IVec S2880 32 := fun i => lit3 (S2880.rowMajor i)
def rowTab : IVec S2880 32 := fun i => lit4 (S2880.rowMajor i)
def colTab : IVec S2880 32 := fun i => lit5 (S2880.rowMajor i)

/-- Where each tap goes. -/
def places (z1 z2 : IVec S2880 1) (r k : IVec S2880 32) : IVec S2880x2 32 :=
  concatenate S2880x2 1 [⟨S2880x1, broadcastInDim S2880x1 ![0] bcast_S2880_S2880x1_0 (wrapped 144#32 z1 r)⟩,
    ⟨S2880x1, broadcastInDim S2880x1 ![0] bcast_S2880_S2880x1_0 (wrapped 36#32 z2 k)⟩] concatenates_S2880x1_S2880x1_S2880x2_d1

/-- The convolution as a matrix, from the tables of taps, rows and columns and their masks. -/
def matOf (z0 z1 z2 : IVec S2880 1) (t r k : IVec S2880 32) (w : FVec Ideal S1x4x5x5 .f32) : FVec Ideal S144x36 .f32 :=
  Host.scatterAdd scatter_S144x36_S2880x2_S2880_n_01_01_1
    (broadcastInDim S144x36 ![] bcast_S_S144x36 (constant S_ .f32 0x00000000#32)) (places z1 z2 r k)
    (Host.gather gather_S100_S2880x1_S2880_n_0_n_n_0_1_1 (shapeCast _ w shapeCasts_S1x4x5x5_S100)
      (broadcastInDim S2880x1 ![0] bcast_S2880_S2880x1_0 (wrapped 100#32 z0 t)))

/-- The convolution as a matrix. -/
def mat (w : FVec Ideal S1x4x5x5 .f32) : FVec Ideal S144x36 .f32 :=
  matOf (constantI S2880 1 0#1) (constantI S2880 1 0#1) (constantI S2880 1 0#1) tapTab rowTab colTab w

/-- The whole kernel. -/
def out (dp : FVec Ideal S8x3x8192x32 .f32) (w : FVec Ideal S1x4x5x5 .f32) (b : FVec Ideal S1 .f32) : FVec Ideal S8x1x8192x32 .f32 :=
  broadcastInDim S8x1x8192x32 ![0, 2, 3] bcast_S8x8192x32_S8x1x8192x32_0_2_3
    (transpose S8x8192x32 [1, 2, 0]
      (shapeCast _ (Pass2.outT (coords dp) (rots dp)
        (transpose S36x144 [1, 0] (mat w) transposes_S144x36_S36x144_1_0) (shapeCast _ b shapeCasts_S1_S1x1))
        shapeCasts_S32x65536_S32x8x8192) transposes_S32x8x8192_S8x8192x32_1_2_0)

section
variable (X : Valuation τ sig (Elt Ideal))

theorem h0 : StableHlo.after hostOps0 X (Proc.devRef .tc main_v1) = coords (X (Proc.devRef .tc main_arg0)) := by
  after_results_simp; rfl
theorem h0t : StableHlo.after hostOps0 X (Proc.devRef .tc main_v2) = coords (X (Proc.devRef .tc main_arg0)) := by
  after_results_simp; rfl
theorem h0a : StableHlo.after hostOps0 X (Proc.devRef .tc main_cst) = (fun i => FloatOps.ofBits (F := Ideal) .f32 (lit0 (S3.rowMajor i)) : FVec Ideal S3 .f32) := by
  after_results_simp; rfl
theorem h0b : StableHlo.after hostOps0 X (Proc.devRef .tc main_cst_0) = (fun i => FloatOps.ofBits (F := Ideal) .f32 (lit1 (S3.rowMajor i)) : FVec Ideal S3 .f32) := by
  after_results_simp; rfl
theorem h0c : StableHlo.after hostOps0 X (Proc.devRef .tc main_cst_1) = (fun i => FloatOps.ofBits (F := Ideal) .f32 (lit2 (S3.rowMajor i)) : FVec Ideal S3 .f32) := by
  after_results_simp; rfl
theorem h0d : StableHlo.after hostOps0 X (Proc.devRef .tc main_c) = tapTab := by after_results_simp; rfl
theorem h0e : StableHlo.after hostOps0 X (Proc.devRef .tc main_c_2) = constantI S2880 1 0#1 := by after_results_simp
theorem h0f : StableHlo.after hostOps0 X (Proc.devRef .tc main_c_3) = rowTab := by after_results_simp; rfl
theorem h0g : StableHlo.after hostOps0 X (Proc.devRef .tc main_c_4) = constantI S2880 1 0#1 := by after_results_simp
theorem h0h : StableHlo.after hostOps0 X (Proc.devRef .tc main_c_5) = colTab := by after_results_simp; rfl
theorem h0i : StableHlo.after hostOps0 X (Proc.devRef .tc main_c_6) = constantI S2880 1 0#1 := by after_results_simp

theorem h19r : StableHlo.after hostOps1_16 X (Proc.devRef .tc main_v111)
    = (transpose S9x65536 [1, 0] (shapeCast _ (X (Proc.devRef .tc main_v108) : FVec Ideal S65536x3x3 .f32) shapeCasts_S65536x3x3_S65536x9)
        transposes_S65536x9_S9x65536_1_0 : FVec Ideal S9x65536 .f32) := by
  after_results_simp; rfl
theorem h19b : StableHlo.after hostOps1_16 X (Proc.devRef .tc main_v131)
    = (shapeCast _ (X (Proc.devRef .tc main_arg2) : FVec Ideal S1 .f32) shapeCasts_S1_S1x1 : FVec Ideal S1x1 .f32) := by
  after_results_simp; rfl
theorem h19m : StableHlo.after hostOps1_16 X (Proc.devRef .tc main_v130)
      = (transpose S36x144 [1, 0] (matOf (X (Proc.devRef .tc main_c_2)) (X (Proc.devRef .tc main_c_4)) (X (Proc.devRef .tc main_c_6))
          (X (Proc.devRef .tc main_c)) (X (Proc.devRef .tc main_c_3)) (X (Proc.devRef .tc main_c_5)) (X (Proc.devRef .tc main_arg1)))
          transposes_S144x36_S36x144_1_0 : FVec Ideal S36x144 .f32) := by
  after_results_simp; rfl
theorem h21 : StableHlo.after hostOps2 X (Proc.devRef .tc main_v135)
    = (broadcastInDim S8x1x8192x32 ![0, 2, 3] bcast_S8x8192x32_S8x1x8192x32_0_2_3
        (transpose S8x8192x32 [1, 2, 0] (shapeCast _ (X (Proc.devRef .tc main_v132) : FVec Ideal S32x65536 .f32)
          shapeCasts_S32x65536_S32x8x8192) transposes_S32x8x8192_S8x8192x32_1_2_0) : FVec Ideal S8x1x8192x32 .f32) := by
  after_results_simp; rfl
end

variable (m : (ℓ : Loc nD τ sig) → Buf (Elt Ideal) ℓ) (ρ : Dev nD → PrngReg) (c : Dev nD)

/-- A buffer no host operation between the passes writes, and which is not the first pass's result, is what the opening stretch left. -/
theorem kept (r : Ref sig .tc) (h2 : ∀ w : Fin cfg0.W, Pipeline.arrRef spec0 w = r → (cfg0.win w).isOut = false)
    (h : ∀ W ∈ [hostOps1_W, hostOps1_1_W, hostOps1_2_W, hostOps1_3_W, hostOps1_4_W, hostOps1_5_W, hostOps1_6_W, hostOps1_7_W, hostOps1_8_W,
      hostOps1_9_W, hostOps1_10_W, hostOps1_11_W, hostOps1_12_W, hostOps1_13_W, hostOps1_14_W, hostOps1_15_W], r ∉ W) :
    W18 m ρ c (Proc.devRef .tc r) = W1 m ρ c (Proc.devRef .tc r) ∧ W9 m ρ c (Proc.devRef .tc r) = W1 m ρ c (Proc.devRef .tc r)
      ∧ W4 m ρ c (Proc.devRef .tc r) = W1 m ρ c (Proc.devRef .tc r) := by
  simp only [List.forall_mem_cons] at h
  obtain ⟨a0, a1, a2, a3, a4, a5, a6, a7, a8, a9, a10, a11, a12, a13, a14, a15, -⟩ := h
  have k4 := (W4_of m ρ c r a1).trans ((W3_of m ρ c r a0).trans (W2_of m ρ c r h2))
  have k9 := (W9_of m ρ c r a6).trans ((W8_of m ρ c r a5).trans ((W7_of m ρ c r a4).trans ((W6_of m ρ c r a3).trans
    ((W5_of m ρ c r a2).trans k4))))
  exact ⟨(W18_of m ρ c r a15).trans ((W17_of m ρ c r a14).trans ((W16_of m ρ c r a13).trans ((W15_of m ρ c r a12).trans
    ((W14_of m ρ c r a11).trans ((W13_of m ρ c r a10).trans ((W12_of m ρ c r a9).trans ((W11_of m ρ c r a8).trans
    ((W10_of m ρ c r a7).trans k9)))))))), k9, k4⟩

/-- The rotations as the kernel's host computes them. -/
theorem v108 : W18 m ρ c (Proc.devRef .tc main_v108) = Rot.align (F := Ideal) (W3 m ρ c (Proc.devRef .tc main_v4)) := by
  have z := (kept m ρ c main_cst (by decide +kernel) (by decide +kernel)).2.2.trans (h0a _)
  have c0 := (kept m ρ c main_cst_0 (by decide +kernel) (by decide +kernel)).2.1.trans (h0b _)
  have c1 := (kept m ρ c main_cst_1 (by decide +kernel) (by decide +kernel)).2.1.trans (h0c _)
  have a5 : W4 m ρ c (Proc.devRef .tc main_v5) = Rot.norm (F := Ideal) (W3 m ρ c (Proc.devRef .tc main_v4)) := Rot.k4 _
  have a4 := W4_of m ρ c main_v4 (by decide +kernel)
  have a9 : W5 m ρ c (Proc.devRef .tc main_v9) = _ := Rot.k5 (W4 m ρ c)
  have a10 : W5 m ρ c (Proc.devRef .tc main_v10) = _ := Rot.k5z (W4 m ρ c)
  rw [z] at a10
  rw [a5, a4] at a9
  have a11 : W6 m ρ c (Proc.devRef .tc main_v11) = _ := Rot.k6 (W5 m ρ c)
  have a15 : W7 m ρ c (Proc.devRef .tc main_v15) = _ := Rot.k7 (W6 m ρ c)
  rw [a11, W6_of m ρ c main_v9 (by decide +kernel), a9] at a15
  replace a15 : W7 m ρ c (Proc.devRef .tc main_v15) = Rot.dir (F := Ideal) (W3 m ρ c (Proc.devRef .tc main_v4)) := a15
  replace a10 : W7 m ρ c (Proc.devRef .tc main_v10) = Rot.zAxis (F := Ideal) := by
    rw [W7_of m ρ c main_v10 (by decide +kernel), W6_of m ρ c main_v10 (by decide +kernel), a10]; rfl
  generalize W3 m ρ c (Proc.devRef .tc main_v4) = v at *
  have a16 : W8 m ρ c (Proc.devRef .tc main_v16) = _ := Rot.k8 (W7 m ρ c)
  rw [a15, a10] at a16
  have a17 : W9 m ρ c (Proc.devRef .tc main_v17) = _ := Rot.k9 (W8 m ρ c)
  rw [a16] at a17
  have b15 := (W9_of m ρ c main_v15 (by decide +kernel)).trans ((W8_of m ρ c main_v15 (by decide +kernel)).trans a15)
  have b10 := (W9_of m ρ c main_v10 (by decide +kernel)).trans ((W8_of m ρ c main_v10 (by decide +kernel)).trans a10)
  have a20 : W10 m ρ c (Proc.devRef .tc main_v20) = _ := Rot.k10c (W9 m ρ c)
  have a27 : W10 m ρ c (Proc.devRef .tc main_v27) = _ := Rot.k10z (W9 m ρ c)
  have a34 : W10 m ρ c (Proc.devRef .tc main_v34) = _ := Rot.k10p (W9 m ρ c)
  have a41 : W11 m ρ c (Proc.devRef .tc main_v41) = _ := Rot.k11 (W9 m ρ c) c0 c1
  rw [b15, b10] at a20
  rw [a17, b15, b10] at a27 a34
  rw [b15] at a41
  have b15' := (W11_of m ρ c main_v15 (by decide +kernel)).trans ((W10_of m ρ c main_v15 (by decide +kernel)).trans b15)
  have a42 : W12 m ρ c (Proc.devRef .tc main_v42) = _ := Rot.k12 (W11 m ρ c)
  rw [b15', a41] at a42
  have a43 : W13 m ρ c (Proc.devRef .tc main_v43) = _ := Rot.k13 (W12 m ρ c)
  rw [a42] at a43
  have b42 := (W13_of m ρ c main_v42 (by decide +kernel)).trans a42
  have b34 := (W13_of m ρ c main_v34 (by decide +kernel)).trans ((W12_of m ρ c main_v34 (by decide +kernel)).trans
    ((W11_of m ρ c main_v34 (by decide +kernel)).trans a34))
  have b16 := (W13_of m ρ c main_v16 (by decide +kernel)).trans ((W12_of m ρ c main_v16 (by decide +kernel)).trans
    ((W11_of m ρ c main_v16 (by decide +kernel)).trans ((W10_of m ρ c main_v16 (by decide +kernel)).trans
    ((W9_of m ρ c main_v16 (by decide +kernel)).trans a16))))
  have a49 : W15 m ρ c (Proc.devRef .tc main_v49) = _ := Rot.k15 (W13 m ρ c)
  rw [b34, b42, a43, b16] at a49
  have a50 : W16 m ρ c (Proc.devRef .tc main_v50) = _ := Rot.k16 (W15 m ρ c)
  rw [a49] at a50
  have b49 := (W16_of m ρ c main_v49 (by decide +kernel)).trans a49
  have b27 := (W16_of m ρ c main_v27 (by decide +kernel)).trans ((W15_of m ρ c main_v27 (by decide +kernel)).trans
    ((W14_of m ρ c main_v27 (by decide +kernel)).trans ((W13_of m ρ c main_v27 (by decide +kernel)).trans
    ((W12_of m ρ c main_v27 (by decide +kernel)).trans ((W11_of m ρ c main_v27 (by decide +kernel)).trans a27)))))
  have b20 := (W16_of m ρ c main_v20 (by decide +kernel)).trans ((W15_of m ρ c main_v20 (by decide +kernel)).trans
    ((W14_of m ρ c main_v20 (by decide +kernel)).trans ((W13_of m ρ c main_v20 (by decide +kernel)).trans
    ((W12_of m ρ c main_v20 (by decide +kernel)).trans ((W11_of m ρ c main_v20 (by decide +kernel)).trans a20)))))
  have b17 := (W16_of m ρ c main_v17 (by decide +kernel)).trans ((W15_of m ρ c main_v17 (by decide +kernel)).trans
    ((W14_of m ρ c main_v17 (by decide +kernel)).trans ((W13_of m ρ c main_v17 (by decide +kernel)).trans
    ((W12_of m ρ c main_v17 (by decide +kernel)).trans ((W11_of m ρ c main_v17 (by decide +kernel)).trans
    ((W10_of m ρ c main_v17 (by decide +kernel)).trans a17))))))
  have a108 : W18 m ρ c (Proc.devRef .tc main_v108) = _ := Rot.k18 (W16 m ρ c)
  rw [b27, b49, a50, b17, b20] at a108
  exact a108

/-- The kernel's result array after its last host operation. -/
theorem value : W21 m ρ c (Proc.devRef .tc main_v135)
    = out (m ((c.tc : Thread nD τ).loc main_arg0)) (m ((c.tc : Thread nD τ).loc main_arg1)) (m ((c.tc : Thread nD τ).loc main_arg2)) := by
  have e1 : W1 m ρ c (Proc.devRef .tc main_v1) = coords (m ((c.tc : Thread nD τ).loc main_arg0)) := h0 _
  have e2 : W1 m ρ c (Proc.devRef .tc main_v2) = coords (m ((c.tc : Thread nD τ).loc main_arg0)) := h0t _
  have e3 : W2 m ρ c (Proc.devRef .tc main_v3) = Pass1.farVec (coords (m ((c.tc : Thread nD τ).loc main_arg0))) :=
    (W2_arr m ρ c 1).trans ((Pass1.arr (V1 m ρ) c).trans (congrArg Pass1.farVec e1))
  have e4 : W3 m ρ c (Proc.devRef .tc main_v4) = fars (m ((c.tc : Thread nD τ).loc main_arg0)) := by
    refine (Rot.k3 (W2 m ρ c)).trans ?_
    rw [e3]; rfl
  have e108 := v108 m ρ c
  rw [e4] at e108
  have e111 : W19 m ρ c (Proc.devRef .tc main_v111) = rots (m ((c.tc : Thread nD τ).loc main_arg0)) := by
    refine (h19r (W18 m ρ c)).trans ?_
    rw [e108]; rfl
  have e130 : W19 m ρ c (Proc.devRef .tc main_v130) = _ := h19m (W18 m ρ c)
  rw [(kept m ρ c main_c (by decide +kernel) (by decide +kernel)).1.trans (h0d _),
    (kept m ρ c main_c_2 (by decide +kernel) (by decide +kernel)).1.trans (h0e _),
    (kept m ρ c main_c_3 (by decide +kernel) (by decide +kernel)).1.trans (h0f _),
    (kept m ρ c main_c_4 (by decide +kernel) (by decide +kernel)).1.trans (h0g _),
    (kept m ρ c main_c_5 (by decide +kernel) (by decide +kernel)).1.trans (h0h _),
    (kept m ρ c main_c_6 (by decide +kernel) (by decide +kernel)).1.trans (h0i _),
    W18_args m ρ c main_arg1 (by decide +kernel)] at e130
  have e131 : W19 m ρ c (Proc.devRef .tc main_v131) = _ := h19b (W18 m ρ c)
  rw [W18_args m ρ c main_arg2 (by decide +kernel)] at e131
  have e2' : W19 m ρ c (Proc.devRef .tc main_v2) = coords (m ((c.tc : Thread nD τ).loc main_arg0)) :=
    (W19_of m ρ c main_v2 (by decide +kernel)).trans ((kept m ρ c main_v2 (by decide +kernel) (by decide +kernel)).1.trans e2)
  have e132 : W20 m ρ c (Proc.devRef .tc main_v132) = Pass2.outT (W19 m ρ c (Proc.devRef .tc main_v2))
      (W19 m ρ c (Proc.devRef .tc main_v111)) (W19 m ρ c (Proc.devRef .tc main_v130)) (W19 m ρ c (Proc.devRef .tc main_v131)) :=
    (W20_arr m ρ c 4).trans (Pass2.arr (V19 m ρ) c)
  rw [e2', e111, e130, e131] at e132
  refine (h21 (W20 m ρ c)).trans ?_
  rw [e132]; rfl

end Cert.KHost
end
-- ==== Proof.Conv.lean ====
/- The convolution over the bins, written two ways: as 25 shifted products over a padded and wrapped map, and as one
   product of the map's 144 entries with a matrix of taps. -/
module

public import proofs.«01_k».proof.Proof.Spec

@[expose] public section

noncomputable section

namespace Cert.Conv

open Idealize.ShloMosaic

/-- The map at row `y` of the padded, and column `x` of the wrapped, map. -/
def around (h : Fin 6 → Fin 6 → Fin 4 → EReal) (c : Fin 4) (y x : Nat) : EReal :=
  if hy : 2 ≤ y ∧ y - 2 < 6 then h ⟨y - 2, hy.2⟩ ⟨(x + 4) % 6, Nat.mod_lt _ (by omega)⟩ c else 0

/-- The convolution at `(a, b)`. -/
def conv (h : Fin 6 → Fin 6 → Fin 4 → EReal) (w : Fin 4 → Fin 5 → Fin 5 → EReal) (a b : Fin 6) : EReal :=
  ∑ u : Fin 5, ∑ v : Fin 5, ∑ c : Fin 4, around h c (a.val + u.val) (b.val + v.val) * w c u v

/-- The tap by which the map's entry `(y, x, c)` counts towards the convolution at `(a, b)`. -/
def tap (w : Fin 4 → Fin 5 → Fin 5 → EReal) (y x : Fin 6) (c : Fin 4) (a b : Fin 6) : EReal :=
  if k : (a.val ≤ y.val + 2 ∧ y.val + 2 - a.val < 5) ∧ (x.val + 8 - b.val) % 6 < 5
    then w c ⟨y.val + 2 - a.val, k.1.2⟩ ⟨(x.val + 8 - b.val) % 6, k.2⟩ else 0

/-- Rows: the taps that meet a row of the map, against the rows that a tap meets. -/
theorem sum_rows (f : Fin 5 → Fin 6 → EReal) (a : Fin 6) :
    (∑ u : Fin 5, if hy : 2 ≤ a.val + u.val ∧ a.val + u.val - 2 < 6 then f u ⟨a.val + u.val - 2, hy.2⟩ else 0)
      = ∑ y : Fin 6, if k : a.val ≤ y.val + 2 ∧ y.val + 2 - a.val < 5 then f ⟨y.val + 2 - a.val, k.2⟩ y else 0 := by
  fin_cases a <;> simp [Fin.sum_univ_succ, add_assoc] <;> rfl

/-- Columns: the same, round the circle. -/
theorem sum_cols (f : Fin 5 → Fin 6 → EReal) (b : Fin 6) :
    (∑ v : Fin 5, f v ⟨(b.val + v.val + 4) % 6, Nat.mod_lt _ (by omega)⟩)
      = ∑ x : Fin 6, if k : (x.val + 8 - b.val) % 6 < 5 then f ⟨(x.val + 8 - b.val) % 6, k⟩ x else 0 := by
  fin_cases b <;> simp [Fin.sum_univ_succ] <;> abel

/-- Row `q` of the matrix as a row and a column of the map and a feature. -/
def split : Fin 144 ≃ Fin 6 × Fin 6 × Fin 4 where
  toFun q := (⟨q.val / 24, by omega⟩, ⟨q.val / 4 % 6, by omega⟩, ⟨q.val % 4, by omega⟩)
  invFun p := ⟨p.1.val * 24 + p.2.1.val * 4 + p.2.2.val, by omega⟩
  left_inv q := by apply Fin.ext; show q.val / 24 * 24 + q.val / 4 % 6 * 4 + q.val % 4 = q.val; omega
  right_inv p := by
    obtain ⟨y, x, c⟩ := p
    refine Prod.ext (Fin.ext ?_) (Prod.ext (Fin.ext ?_) (Fin.ext ?_))
    · show (y.val * 24 + x.val * 4 + c.val) / 24 = y.val; omega
    · show (y.val * 24 + x.val * 4 + c.val) / 4 % 6 = x.val; omega
    · show (y.val * 24 + x.val * 4 + c.val) % 4 = c.val; omega

/-- The matrix's product is the convolution. -/
theorem sum_tap (P : Fin 32 → Fin 3 → EReal) (w : Fin 4 → Fin 5 → Fin 5 → EReal) (a b : Fin 6) :
    (∑ q : Fin 144, tap w (split q).1 (split q).2.1 (split q).2.2 a b * Spec.histRow P q) = conv (Spec.hist P) w a b := by
  have e : ∀ q : Fin 144, tap w (split q).1 (split q).2.1 (split q).2.2 a b * Spec.histRow P q
      = (fun p : Fin 6 × Fin 6 × Fin 4 => tap w p.1 p.2.1 p.2.2 a b * Spec.hist P p.1 p.2.1 p.2.2) (split q) := fun q => rfl
  simp only [e]
  rw [Equiv.sum_comp split (fun p : Fin 6 × Fin 6 × Fin 4 => tap w p.1 p.2.1 p.2.2 a b * Spec.hist P p.1 p.2.1 p.2.2)]
  rw [Fintype.sum_prod_type]
  simp only [Fintype.sum_prod_type]
  generalize Spec.hist P = h
  have r := sum_rows (fun u y => ∑ x : Fin 6, if k : (x.val + 8 - b.val) % 6 < 5
    then ∑ c : Fin 4, h y x c * w c u ⟨(x.val + 8 - b.val) % 6, k⟩ else 0) a
  have l : conv h w a b = ∑ u : Fin 5, if hy : 2 ≤ a.val + u.val ∧ a.val + u.val - 2 < 6
      then ∑ x : Fin 6, (if k : (x.val + 8 - b.val) % 6 < 5
        then ∑ c : Fin 4, h ⟨a.val + u.val - 2, hy.2⟩ x c * w c u ⟨(x.val + 8 - b.val) % 6, k⟩ else 0) else 0 := by
    refine Finset.sum_congr rfl fun u _ => ?_
    split
    · rename_i hy
      rw [← sum_cols (fun v x => ∑ c : Fin 4, h ⟨a.val + u.val - 2, hy.2⟩ x c * w c u v) b]
      refine Finset.sum_congr rfl fun v _ => Finset.sum_congr rfl fun c _ => ?_
      rw [around, dif_pos hy]
    · rename_i hy
      simp only [around, dif_neg hy, zero_mul, Finset.sum_const_zero]
  rw [l, r]
  refine Finset.sum_congr rfl fun y _ => ?_
  split
  · rename_i k1
    refine Finset.sum_congr rfl fun x _ => ?_
    split
    · rename_i k2
      refine Finset.sum_congr rfl fun c _ => ?_
      rw [tap, dif_pos ⟨k1, k2⟩, mul_comm]
    · rename_i k2
      exact Finset.sum_eq_zero fun c _ => by rw [tap, dif_neg (fun k => k2 k.2), zero_mul]
  · rename_i k1
    exact Finset.sum_eq_zero fun x _ => Finset.sum_eq_zero fun c _ => by rw [tap, dif_neg (fun k => k1 k.1), zero_mul]

end Cert.Conv
end
-- ==== Proof.Mat.lean ====
/- The kernel's matrix of taps, read at one entry: the tables name each of the 2880 pairs of an entry of the map and a
   place of the result once, with its tap. -/
module

public import proofs.«01_k».proof.Proof.KHost
public import proofs.«01_k».proof.Proof.Conv
public import Idealize.ShloMosaic.Lib.Routing.OpsPair

@[expose] public section

noncomputable section

namespace Cert.Mat

open Idealize.ShloMosaic Cert.KernelIdeal Cert.KernelIdeal.Gen

/-! ## The tables -/

def tapN (j : Nat) : Nat := (lit3t j).toNat
def rowN (j : Nat) : Nat := (lit4t j).toNat
def colN (j : Nat) : Nat := (lit5t j).toNat

/-- Of the result's row `a`: the rows of taps before it, how many it has, and the first of them. -/
def before (a : Nat) : Nat := match a with | 0 => 0 | 1 => 3 | 2 => 7 | 3 => 12 | 4 => 17 | _ => 21
def many (a : Nat) : Nat := match a with | 0 => 3 | 1 => 4 | 2 => 5 | 3 => 5 | 4 => 4 | _ => 3
def low (a : Nat) : Nat := match a with | 0 => 2 | 1 => 1 | _ => 0

/-- Where the pair of the map's entry `q` and the result's place `o` stands in the tables. -/
def pos (q o : Nat) : Nat :=
  before (o / 6) * 120 + (o % 6) * (many (o / 6) * 20) + (q / 24 + 2 - o / 6 - low (o / 6)) * 20 + (q / 4 % 6 + 8 - o % 6) % 6 * 4 + q % 4

/-- Whether some tap takes the map's entry `q` to the result's place `o`. -/
def meets (q o : Nat) : Bool := decide ((o / 6 ≤ q / 24 + 2 ∧ q / 24 + 2 - o / 6 < 5) ∧ (q / 4 % 6 + 8 - o % 6) % 6 < 5)

set_option maxRecDepth 100000 in
theorem tables : ∀ j : Fin 2880, rowN j.val < 144 ∧ colN j.val < 36 ∧ pos (rowN j.val) (colN j.val) = j.val
    ∧ meets (rowN j.val) (colN j.val) = true
    ∧ tapN j.val = rowN j.val % 4 * 25 + (rowN j.val / 24 + 2 - colN j.val / 6) * 5 + (rowN j.val / 4 % 6 + 8 - colN j.val % 6) % 6 := by
  decide +kernel

set_option maxRecDepth 100000 in
theorem listed : ∀ (q : Fin 144) (o : Fin 36), meets q.val o.val = true →
    pos q.val o.val < 2880 ∧ rowN (pos q.val o.val) = q.val ∧ colN (pos q.val o.val) = o.val := by
  decide +kernel

/-! ## The scatter and the gather -/

theorem start_eq (j : Fin 2880) (idx : IVec S2880x2 32) :
    scatter_S144x36_S2880x2_S2880_n_01_01_1.start (ix1 j) idx 0 = (idx (ix2 j 0)).toInt
    ∧ scatter_S144x36_S2880x2_S2880_n_01_01_1.start (ix1 j) idx 1 = (idx (ix2 j 1)).toInt := by
  have e : ∀ k : Fin 2, scatter_S144x36_S2880x2_S2880_n_01_01_1.siIdx (ix1 j) k = ix2 j k := fun k => by
    funext a
    match a with
    | 0 => rfl
    | 1 => rfl
  exact ⟨congrArg (fun z => (idx z).toInt) (e 0), congrArg (fun z => (idx z).toInt) (e 1)⟩

theorem pick (x : FVec Ideal S100 .f32) (idx : IVec S2880x1 32) (j : Fin 2880) (t : Fin 100)
    (w : idx (ix2 j 0) = BitVec.ofNat 32 t.val) : Host.gather gather_S100_S2880x1_S2880_n_0_n_n_0_1_1 x idx (ix1 j) = x (ix1 t) := by
  unfold Host.gather
  congr 1
  funext a
  apply Fin.ext
  match a with
  | 0 =>
    show min (idx _).toInt.toNat 99 + 0 + 0 = t.val
    have e : GatherDims.siIdx gather_S100_S2880x1_S2880_n_0_n_n_0_1_1 (ix1 j) ⟨0, by decide⟩ = ix2 j 0 := by
      funext c
      match c with
      | 0 => rfl
      | 1 => rfl
    have e' := (congrArg idx e).trans w
    have h := t.isLt
    have q : (BitVec.ofNat 32 t.val).toInt = t.val := by
      rw [BitVec.toInt_eq_toNat_cond, BitVec.toNat_ofNat]; omega
    refine (congrArg (fun z : BitVec 32 => min z.toInt.toNat 99 + 0 + 0) e').trans ?_
    rw [q]
    omega

theorem scatterAdd_apply {s si u : Shape} {w : Nat} (d : ScatterDims s si u) (x : FVec Ideal s .f32) (idx : IVec si w) (upd : FVec Ideal u .f32)
    (i : s.Idx) : Host.scatterAdd d x idx upd i = x i + ∑ j ∈ Finset.univ.filter (fun j => d.resultIdx? j idx = some i), upd j := rfl

variable (t r k : IVec S2880 32) (w : FVec Ideal S1x4x5x5 .f32)

theorem wrapped_none (x : BitVec 32) (t : IVec S2880 32) : KHost.wrapped x (constantI S2880 1 0#1) t = t := by
  funext i
  rfl

theorem places_apply (j : Fin 2880) :
    KHost.places (constantI S2880 1 0#1) (constantI S2880 1 0#1) r k (ix2 j 0) = r (ix1 j)
    ∧ KHost.places (constantI S2880 1 0#1) (constantI S2880 1 0#1) r k (ix2 j 1) = k (ix1 j) := by
  unfold KHost.places
  rw [wrapped_none, wrapped_none]
  constructor
  · pointwise []
  · pointwise []

theorem column (j : Fin 2880) : broadcastInDim S2880x1 ![0] bcast_S2880_S2880x1_0 t (ix2 j 0) = t (ix1 j) := by
  pointwise []

/-- The weights laid out in one row. -/
theorem weights (t : Fin 100) : shapeCast S100 w shapeCasts_S1x4x5x5_S100 (ix1 t)
    = w (ix4 0 ⟨t.val / 25, by omega⟩ ⟨t.val / 5 % 5, by omega⟩ ⟨t.val % 5, by omega⟩) := by
  pointwise []

/-- The matrix's entry, for any tables. -/
theorem matOf_apply (hr : ∀ j : Fin 2880, (r (ix1 j)).toInt = rowN j.val) (hk : ∀ j : Fin 2880, (k (ix1 j)).toInt = colN j.val)
    (ht : ∀ j : Fin 2880, t (ix1 j) = BitVec.ofNat 32 (tapN j.val)) (q : Fin 144) (o : Fin 36) :
    KHost.matOf (constantI S2880 1 0#1) (constantI S2880 1 0#1) (constantI S2880 1 0#1) t r k w (ix2 q o)
      = Conv.tap (fun c u v => w (ix4 0 c u v)) (Conv.split q).1 (Conv.split q).2.1 (Conv.split q).2.2
        ⟨o.val / 6, by omega⟩ ⟨o.val % 6, by omega⟩ := by
  unfold KHost.matOf
  rw [scatterAdd_apply]
  have z : broadcastInDim S144x36 ![] bcast_S_S144x36 (constant (F := Ideal) S_ .f32 0x00000000#32) (ix2 q o) = 0 := by
    pointwise []
  rw [z]
  refine (zero_add _).trans ?_
  have land : ∀ j : Fin 2880, scatter_S144x36_S2880x2_S2880_n_01_01_1.resultIdx? (ix1 j)
      (KHost.places (constantI S2880 1 0#1) (constantI S2880 1 0#1) r k) = some (ix2 q o) ↔ rowN j.val = q.val ∧ colN j.val = o.val := fun j => by
    refine (Routing.resultIdx?_ix2 (R := 144) (C := 36) _ _ _ q o).trans ?_
    rw [(start_eq j _).1, (start_eq j _).2, (places_apply r k j).1, (places_apply r k j).2, hr, hk]
    show (rowN j.val : Int) + (0 : Nat) = q.val ∧ (colN j.val : Int) + (0 : Nat) = o.val ↔ _
    omega
  by_cases m : meets q.val o.val = true
  · obtain ⟨l, lr, lc⟩ := listed q o m
    obtain ⟨-, -, -, -, lt⟩ := tables ⟨pos q.val o.val, l⟩
    dsimp only at lt
    rw [lr, lc] at lt
    have m' := of_decide_eq_true m
    have one : (Finset.univ.filter fun j => scatter_S144x36_S2880x2_S2880_n_01_01_1.resultIdx? j
        (KHost.places (constantI S2880 1 0#1) (constantI S2880 1 0#1) r k) = some (ix2 q o)) = {(ix1 ⟨pos q.val o.val, l⟩ : S2880.Idx)} := by
      ext j
      obtain ⟨j, rfl⟩ : ∃ j' : Fin 2880, j = ix1 j' := ⟨j 0, by idx_vars j⟩
      rw [Finset.mem_filter, Finset.mem_singleton, land]
      constructor
      · rintro ⟨-, hq, ho⟩
        obtain ⟨-, -, hp, -⟩ := tables j
        rw [hq, ho] at hp
        exact congrArg ix1 (Fin.ext hp.symm)
      · intro e
        have e0 : j = ⟨pos q.val o.val, l⟩ := congrFun e 0
        rw [e0]
        exact ⟨Finset.mem_univ _, lr, lc⟩
    rw [one, Finset.sum_singleton]
    have b : tapN (pos q.val o.val) < 100 := by rw [lt]; omega
    rw [wrapped_none, pick _ _ _ ⟨tapN (pos q.val o.val), b⟩ ((column t _).trans (ht _)), weights]
    have T : Conv.tap (fun c u v => w (ix4 0 c u v)) (Conv.split q).1 (Conv.split q).2.1 (Conv.split q).2.2
        ⟨o.val / 6, by omega⟩ ⟨o.val % 6, by omega⟩ = w (ix4 0 ⟨q.val % 4, by omega⟩ ⟨q.val / 24 + 2 - o.val / 6, m'.1.2⟩
          ⟨(q.val / 4 % 6 + 8 - o.val % 6) % 6, m'.2⟩) := dif_pos m'
    rw [T]
    have s : ∀ (c c' : Fin 4) (u u' v v' : Fin 5), c = c' → u = u' → v = v' → w (ix4 0 c u v) = w (ix4 0 c' u' v') := by
      rintro _ _ _ _ _ _ rfl rfl rfl; rfl
    apply s
    · exact Fin.ext (by show tapN (pos q.val o.val) / 25 = q.val % 4; omega)
    · exact Fin.ext (by show tapN (pos q.val o.val) / 5 % 5 = q.val / 24 + 2 - o.val / 6; omega)
    · exact Fin.ext (by show tapN (pos q.val o.val) % 5 = (q.val / 4 % 6 + 8 - o.val % 6) % 6; omega)
  · have T : Conv.tap (fun c u v => w (ix4 0 c u v)) (Conv.split q).1 (Conv.split q).2.1 (Conv.split q).2.2
        ⟨o.val / 6, by omega⟩ ⟨o.val % 6, by omega⟩ = 0 := dif_neg fun h => m (decide_eq_true h)
    rw [T]
    refine Finset.sum_eq_zero fun j hj => absurd (Finset.mem_filter.1 hj).2 ?_
    obtain ⟨j, rfl⟩ : ∃ j' : Fin 2880, j = ix1 j' := ⟨j 0, by idx_vars j⟩
    rw [land]
    rintro ⟨hq, ho⟩
    obtain ⟨-, -, -, hm, -⟩ := tables j
    rw [hq, ho] at hm
    exact m hm

theorem word (x : BitVec 32) (n : Nat) (h : x.toNat < n) (hn : n < 2 ^ 31) : x.toInt = x.toNat := by
  rw [BitVec.toInt_eq_toNat_cond]; omega

theorem same (x : BitVec 32) : x = BitVec.ofNat 32 x.toNat := by simp

theorem flat_ix1 (j : Fin 2880) : S2880.rowMajor (ix1 j) = j := Fin.ext (Shape.rowMajor_val_one _)

/-- The matrix's entry. -/
theorem mat_apply (q : Fin 144) (o : Fin 36) : KHost.mat w (ix2 q o)
      = Conv.tap (fun c u v => w (ix4 0 c u v)) (Conv.split q).1 (Conv.split q).2.1 (Conv.split q).2.2
        ⟨o.val / 6, by omega⟩ ⟨o.val % 6, by omega⟩ := by
  refine matOf_apply _ _ _ w (fun j => ?_) (fun j => ?_) (fun j => ?_) q o
  · show (lit4 (S2880.rowMajor (ix1 j))).toInt = _
    rw [flat_ix1]
    exact word _ 144 (tables j).1 (by omega)
  · show (lit5 (S2880.rowMajor (ix1 j))).toInt = _
    rw [flat_ix1]
    exact word _ 36 (tables j).2.1 (by omega)
  · show lit3 (S2880.rowMajor (ix1 j)) = _
    rw [flat_ix1]
    exact same (lit3t j.val)

end Cert.Mat
end
-- ==== Proof.RefFar.lean ====
/- The reference's far points, and that they are the kernel's. -/
module

public import proofs.«01_k».proof.Proof.KHost

@[expose] public section

set_option maxRecDepth 16384

noncomputable section

namespace Cert.RefFar

open Idealize.ShloMosaic Idealize.SL.Sem Cert.ReferenceIdeal Cert.ReferenceIdeal.Gen Cert.ReferenceIdeal.Value Cert.Maths

variable (V : Valuation Cert.ReferenceIdeal.τ Cert.ReferenceIdeal.sig (Elt Ideal))

/-- The argument: the neighbourhoods. -/
abbrev dpOf : FVec Ideal S8x3x8192x32 .f32 := V (Proc.devRef .tc main_arg0)

/-- The length of each neighbour, as the reference takes it. -/
abbrev lens (b : Fin 8) (N : Fin 8192) (g : Fin 32) : EReal :=
  Pass1.len3 (dpOf V (ix4 b 0 N g)) (dpOf V (ix4 b 1 N g)) (dpOf V (ix4 b 2 N g))

theorem v0_apply (b : Fin 8) (N : Fin 8192) (g : Fin 32) (k : Fin 3) : res_main_v0 V (ix4 b N g k) = dpOf V (ix4 b k N g) := by
  pointwise [res_main_v0]

theorem v1_apply (b : Fin 8) (N : Fin 8192) (g : Fin 32) : res_main_v1 V (ix3 b N g) = lens V b N g := by
  pointwise [res_main_v1]
  simp only [v0_apply]
  rw [Fin.sum_univ_three]
  rfl

/-- A small word is not negative. -/
theorem word_small (k : Fin 32) : (BitVec.ofNat 32 k.val).toInt = k.val := by
  revert k; decide

/-- A fold of conjunctions over true bits is true. -/
theorem fold_andi {ι : Type} [DecidableEq ι] (S : Finset ι) (f : ι → BitVec 1) (h : ∀ x, f x = 1#1) :
    Finset.fold IntOp.andi (1#1) f S = 1#1 := by
  induction S using Finset.induction_on with
  | empty => rfl
  | insert a S ha ih => rw [Finset.fold_insert ha, ih, h]; rfl

theorem iota_along (J : S8x8192x32.Idx) (k : Fin 32) : iotaInDim S8x8192x32 32 2 (J.along 2 k) = BitVec.ofNat 32 k.val := rfl

/-- The head of a descending sort along a row is the row's far point. -/
theorem topK_head (x : FVec Ideal S8x8192x32 .f32) (b : Fin 8) (N : Fin 8192) :
    (Host.topK S8x8192x1 2 (FloatOps.cmpfTotal .gt) x sliceFits_S8x8192x32_S8x8192x1).2 (ix3 b N 0)
      = BitVec.ofNat 32 (far fun g => x (ix3 b N g)).val := by
  have hd : 2 < S8x8192x32.rank := by decide
  unfold Host.topK Host.sort2
  simp only [extractStridedSlice, dif_pos hd]
  have key : ∀ J : S8x8192x32.Idx, J = ix3 b N 0 → iotaInDim S8x8192x32 32 2 (J.along 2 (sortedFrom
      (fun k k' => FloatOps.cmpfTotal (F := Ideal) (φ := .f32) .gt (x (J.along 2 k)) (x (J.along 2 k')) == 1#1) (J 2)))
        = BitVec.ofNat 32 (far fun g => x (ix3 b N g)).val := by
    rintro _ rfl
    have e : ∀ k : Fin 32, Shape.Idx.along (s := S8x8192x32) (ix3 b N 0) 2 k = ix3 b N k := fun k => by
      funext a
      match a with
      | 0 => rfl
      | 1 => rfl
      | 2 => rfl
    have hB : (fun k k' : Fin 32 => FloatOps.cmpfTotal (F := Ideal) (φ := .f32) .gt (x (Shape.Idx.along (s := S8x8192x32) (ix3 b N 0) 2 k))
          (x (Shape.Idx.along (s := S8x8192x32) (ix3 b N 0) 2 k')) == 1#1) = gtBefore fun g => x (ix3 b N g) := by
      funext k k'
      rw [e, e]
      rfl
    refine (iota_along _ _).trans (congrArg (fun z : Fin 32 => BitVec.ofNat 32 z.val) ?_)
    unfold far
    exact congrArg (fun B => sortedFrom B (0 : Fin 32)) hB
  refine key _ (funext fun a => Fin.ext ?_)
  match a with
  | 0 => exact Nat.zero_add _
  | 1 => exact Nat.zero_add _
  | 2 => rfl

theorem v4_apply (b : Fin 8) (N : Fin 8192) (k : Fin 3) :
    res_main_v4 V (ix4 b N 0 k) = BitVec.ofNat 32 (far (lens V b N)).val := by
  pointwise [res_main_v4]
  rw [topK_head, funext fun g => v1_apply V b N g]

theorem call1_apply (b : Fin 8) (N : Fin 8192) (k : Fin 3) :
    res_main_call1_v5 V (ix5 b N 0 k 0) = BitVec.ofNat 32 (far (lens V b N)).val := by
  pointwise [res_main_call1_v5]
  rw [v4_apply]
  generalize far (lens V b N) = f
  revert f; decide

theorem mask_apply (S : Finset S8x8192x1x3x1.Idx) : Finset.fold IntOp.andi (1#1)
        (fun x =>
          IntOp.andi (IntOp.cmpi CmpIPredicate.sge (res_main_call1_v5 V x) 0#32)
            (IntOp.cmpi CmpIPredicate.sle (res_main_call1_v5 V x) 31#32)) S = 1#1 := by
  refine fold_andi _ _ fun x => ?_
  idx_vars x
  rw [Subsingleton.elim x2 0, Subsingleton.elim x4 0, call1_apply]
  generalize far (lens V _ _) = f
  revert f; decide

/-- The gather reads the neighbour its index names. -/
theorem gather_far (x : FVec Ideal S8x8192x32x3 .f32) (idx : IVec S8x8192x1x3x1 32) (b : Fin 8) (N : Fin 8192) (k : Fin 3) (f : Fin 32)
    (w : idx (ix5 b N 0 k 0) = BitVec.ofNat 32 f.val) :
    Host.gather gather_S8x8192x32x3_S8x8192x1x3x1_S8x8192x1x3_n_2_013_013_2_4_1111 x idx (ix4 b N 0 k) = x (ix4 b N f k) := by
  unfold Host.gather
  congr 1
  funext a
  apply Fin.ext
  match a with
  | 0 => show 0 + b.val + 0 = b.val; omega
  | 1 => show 0 + N.val + 0 = N.val; omega
  | 2 =>
    show min (idx _).toInt.toNat 31 + 0 + 0 = f.val
    have e : GatherDims.siIdx gather_S8x8192x32x3_S8x8192x1x3x1_S8x8192x1x3_n_2_013_013_2_4_1111 (ix4 b N 0 k) ⟨0, by decide⟩ = ix5 b N 0 k 0 := by
      funext c
      match c with
      | 0 => rfl
      | 1 => rfl
      | 2 => rfl
      | 3 => rfl
      | 4 => rfl
    have e' : idx (GatherDims.siIdx gather_S8x8192x32x3_S8x8192x1x3x1_S8x8192x1x3_n_2_013_013_2_4_1111 (ix4 b N 0 k) ⟨0, by decide⟩)
        = BitVec.ofNat 32 f.val := (congrArg idx e).trans w
    have h := f.isLt
    refine (congrArg (fun z : BitVec 32 => min z.toInt.toNat 31 + 0 + 0) e').trans ?_
    show min (BitVec.ofNat 32 f.val).toInt.toNat 31 + 0 + 0 = f.val
    rw [word_small]
    omega
  | 3 => show 0 + k.val + 0 = k.val; omega

/-- The reference's far points. -/
theorem v7_apply (b : Fin 8) (N : Fin 8192) (n : Fin 65536) (h : n.val = b.val * 8192 + N.val) (k : Fin 3) :
    res_main_v7 V (ix2 n k) = dpOf V (ix4 b k N (far (lens V b N))) := by
  pointwise [res_main_v7]
  rw [mask_apply]
  have hb : (⟨n.val / 8192, by omega⟩ : Fin 8) = b := Fin.ext (by show n.val / 8192 = b.val; omega)
  have hN : (⟨n.val % 8192, by omega⟩ : Fin 8192) = N := Fin.ext (by show n.val % 8192 = N.val; omega)
  rw [hb, hN]
  refine (WordCmp.select_one _ _).trans ?_
  rw [gather_far _ _ b N k _ (call1_apply V b N k), v0_apply]

/-- The far points of the two programs are one array. -/
theorem v7_eq : res_main_v7 V = KHost.fars (dpOf V) := by
  funext i
  obtain ⟨n, k, rfl⟩ : ∃ (n : Fin 65536) (k : Fin 3), i = ix2 n k := ⟨i 0, i 1, by idx_vars i⟩
  have hn := n.isLt
  rw [v7_apply V ⟨n.val / 8192, by omega⟩ ⟨n.val % 8192, by omega⟩ n (by show n.val = n.val / 8192 * 8192 + n.val % 8192; omega)]
  have c : ∀ (k : Fin 3) (g : Fin 32), KHost.coords (dpOf V) (ix3 k g n)
      = dpOf V (ix4 ⟨n.val / 8192, by omega⟩ k ⟨n.val % 8192, by omega⟩ g) := fun k g => by
    pointwise [KHost.coords]
  pointwise [KHost.fars, Pass1.farVec]
  simp only [c]

end Cert.RefFar
end
-- ==== Proof.RefPoint.lean ====
/- The reference's rotated neighbours, their bins and their features, read at one neighbour. -/
module

public import proofs.«01_k».proof.Proof.RefFar

@[expose] public section

set_option maxRecDepth 16384

noncomputable section

namespace Cert.RefPoint

open Idealize.ShloMosaic Idealize.SL.Sem Cert.ReferenceIdeal Cert.ReferenceIdeal.Gen Cert.ReferenceIdeal.Value Cert.Maths

variable (V : Valuation Cert.ReferenceIdeal.τ Cert.ReferenceIdeal.sig (Elt Ideal))

/-- The rotated neighbours of point `n`. -/
abbrev P (n : Fin 65536) : Fin 32 → Fin 3 → EReal := Pass2.pn (KHost.coords (RefFar.dpOf V)) (KHost.rots (RefFar.dpOf V)) n

theorem rots_apply (x : FVec Ideal S8x3x8192x32 .f32) (n : Fin 65536) (i j : Fin 3) (h : 3 * i.val + j.val < 9) :
    KHost.rots x (ix2 ⟨3 * i.val + j.val, h⟩ n) = Rot.align (KHost.fars x) (ix3 n i j) := by
  have hi := i.isLt
  have hj := j.isLt
  pointwise [KHost.rots]

theorem v164_apply (n : Fin 65536) (g : Fin 32) (k : Fin 3) : res_main_v164 V (ix3 n g k) = P V n g k := by
  rw [Rot.ref_v164, RefFar.v7_eq]
  generalize hA : Rot.align (KHost.fars (RefFar.dpOf V)) = A
  pointwise []
  have e0 := rots_apply (RefFar.dpOf V) n k 0 (by omega)
  have e1 := rots_apply (RefFar.dpOf V) n k 1 (by have := k.isLt; omega)
  have e2 := rots_apply (RefFar.dpOf V) n k 2 (by have := k.isLt; omega)
  have c : ∀ k : Fin 3, KHost.coords (RefFar.dpOf V) (ix3 k g n)
      = RefFar.dpOf V (ix4 ⟨n.val / 8192, by omega⟩ k ⟨n.val % 8192, by omega⟩ g) := fun k => by
    pointwise [KHost.coords]
  rw [hA] at e0 e1 e2
  simp only [RefFar.v0_apply, Fin.sum_univ_three, ← c, ← e0, ← e1, ← e2]
  rfl

theorem v166_apply (n : Fin 65536) (g : Fin 32) : res_main_v166 V (ix3 n g 0) = Spec.rho (P V n g 0) (P V n g 1) (P V n g 2) := by
  pointwise [res_main_v166]
  simp only [v164_apply, Fin.sum_univ_three]
  exact max_comm (α := EReal) _ _

theorem turn_apply (n : Fin 65536) (g : Fin 32) : res_main_call13_v2 V (ix3 n g 0) = Spec.turn (P V n g 0) (P V n g 1) := by
  pointwise [res_main_call13_v2, res_main_call13_v0]
  simp only [v164_apply]
  rfl

/-- The flat number of neighbour `g` of point `n`. -/
abbrev flat (n : Fin 65536) (g : Fin 32) : Fin 2097152 := ⟨n.val * 32 + g.val, by omega⟩

theorem v203_apply (n : Fin 65536) (g : Fin 32) : res_main_v203 V (ix1 (flat n g)) = BitVec.ofNat 32 n.val := by
  pointwise [res_main_v203]
  congr 1
  omega

theorem v204_apply (n : Fin 65536) (g : Fin 32) : res_main_v204 V (ix1 (flat n g)) = BitVec.ofNat 32 (Spec.itOf (P V n) g).val := by
  have hn : (⟨(n.val * 32 + g.val) / 32, by omega⟩ : Fin 65536) = n := Fin.ext (by show (n.val * 32 + g.val) / 32 = n.val; omega)
  have hg : (⟨(n.val * 32 + g.val) % 32, by omega⟩ : Fin 32) = g := Fin.ext (by show (n.val * 32 + g.val) % 32 = g.val; omega)
  pointwise [res_main_v204]
  rw [hn, hg, v164_apply, v166_apply]
  exact Spec.clip_eq _

/-- Two bits differ exactly where their sum is one. -/
theorem cmpi_ne_bit (a b : BitVec 1) : IntOp.cmpi .ne a b = IntOp.xori a b := by
  revert a b; decide

theorem v205_apply (n : Fin 65536) (g : Fin 32) : res_main_v205 V (ix1 (flat n g)) = BitVec.ofNat 32 (Spec.ipOf (P V n) g).val := by
  have hn : (⟨(n.val * 32 + g.val) / 32, by omega⟩ : Fin 65536) = n := Fin.ext (by show (n.val * 32 + g.val) / 32 = n.val; omega)
  have hg : (⟨(n.val * 32 + g.val) % 32, by omega⟩ : Fin 32) = g := Fin.ext (by show (n.val * 32 + g.val) % 32 = g.val; omega)
  pointwise [res_main_v205]
  rw [hn, hg, turn_apply]
  refine Eq.trans ?_ (Spec.clip_eq _)
  unfold Spec.phi
  rw [cmpi_ne_bit]
  rfl

end Cert.RefPoint
end
-- ==== Proof.RefHist.lean ====
/- The reference's histogram of each point, its padding and its wrapping. -/
module

public import proofs.«01_k».proof.Proof.RefPoint
public import Idealize.ShloMosaic.Lib.Routing.OpsPair

@[expose] public section

set_option maxRecDepth 16384

noncomputable section

namespace Cert.RefHist

open Idealize.ShloMosaic Idealize.SL.Sem Cert.ReferenceIdeal Cert.ReferenceIdeal.Gen Cert.ReferenceIdeal.Value Cert.Maths Cert.RefPoint

variable (V : Valuation Cert.ReferenceIdeal.τ Cert.ReferenceIdeal.sig (Elt Ideal))

/-- A row of places: an index, moved up where it is negative. -/
abbrev wrapped (k : BitVec 32) (x : IVec S2097152 32) : IVec S2097152 32 :=
  select (cmpi .slt x (broadcastInDim S2097152 ![] bcast_S_S2097152 (constantI S_ 32 0#32)))
    (addi x (broadcastInDim S2097152 ![] bcast_S_S2097152 (constantI S_ 32 k))) x

/-- Where each neighbour's features go. -/
def places : IVec S2097152x3 32 :=
  concatenate S2097152x3 1 [⟨S2097152x1, broadcastInDim S2097152x1 ![0] bcast_S2097152_S2097152x1_0 (wrapped 65536#32 (res_main_v203 V))⟩,
    ⟨S2097152x1, broadcastInDim S2097152x1 ![0] bcast_S2097152_S2097152x1_0 (wrapped 6#32 (res_main_v204 V))⟩,
    ⟨S2097152x1, broadcastInDim S2097152x1 ![0] bcast_S2097152_S2097152x1_0 (wrapped 6#32 (res_main_v205 V))⟩]
    concatenates_S2097152x1_S2097152x1_S2097152x1_S2097152x3_d1

/-- The features of every neighbour. -/
def feats : FVec Ideal S65536x32x4 .f32 :=
  concatenate S65536x32x4 2 [⟨S65536x32x3, (res_main_v164 V)⟩, ⟨S65536x32x1, (addf (maximumf (subf (broadcastInDim S65536x32x1 ![] bcast_S_S65536x32x1 (constant S_ .f32 0x3F000000#32)) (Host.divf (res_main_v166 V) (broadcastInDim S65536x32x1 ![0, 1, 2] bcast_S65536x1x1_S65536x32x1_0_1_2 (mulf (broadcastInDim S65536x1x1 ![] bcast_S_S65536x1x1 (constant S_ .f32 0x40000000#32)) (addf (broadcastInDim S65536x1x1 ![0, 2] bcast_S65536x1_S65536x1x1_0_2 (Host.reduce FloatOps.maximumf (res_main_v166 V) (constant S_ .f32 0xFF800000#32) reducesTo_S65536x32x1_S65536x1_d1 h_S_)) (broadcastInDim S65536x1x1 ![] bcast_S_S65536x1x1 (constant S_ .f32 0x2B8CBCCC#32))))))) (broadcastInDim S65536x32x1 ![] bcast_S_S65536x32x1 (constant S_ .f32 0x00000000#32))) (broadcastInDim S65536x32x1 ![] bcast_S_S65536x32x1 (constant S_ .f32 0x3F000000#32)))⟩] concatenates_S65536x32x3_S65536x32x1_S65536x32x4_d2

/-- The histograms. -/
def hists : FVec Ideal S65536x6x6x4 .f32 :=
  Host.scatterAdd scatter_S65536x6x6x4_S2097152x3_S2097152x4_1_012_012_1
    (broadcastInDim S65536x6x6x4 ![] bcast_S_S65536x6x6x4 (constant S_ .f32 0x00000000#32)) (places V)
    (shapeCast _ (feats V) shapeCasts_S65536x32x4_S2097152x4)

theorem drop_mid (n : Fin 65536) (g : Fin 32) (z : Fin 1) : reducesTo_S65536x32x1_S65536x1_d1.drop (ix3 n g z) = ix2 n z := by
  funext a
  match a with
  | 0 => rfl
  | 1 => rfl

/-- A maximum along the neighbours. -/
theorem fold_mid (x : FVec Ideal S65536x32x1 .f32) (e : EReal) (n : Fin 65536) :
    Finset.fold max e x {i | reducesTo_S65536x32x1_S65536x1_d1.drop i = ix2 n 0} = Finset.fold max e (fun g : Fin 32 => x (ix3 n g 0)) Finset.univ := by
  classical
  have h : (Finset.univ.filter fun i => reducesTo_S65536x32x1_S65536x1_d1.drop i = ix2 n 0)
      = Finset.univ.image fun g : Fin 32 => (ix3 n g 0 : S65536x32x1.Idx) := by
    ext i
    idx_vars i
    rw [Subsingleton.elim i2 0]
    simp only [Finset.mem_filter, Finset.mem_univ, true_and, Finset.mem_image, drop_mid]
    constructor
    · intro q
      have q0 : i0 = n := congrFun q 0
      exact ⟨i1, by rw [q0]⟩
    · rintro ⟨g, q⟩
      have q0 : n = i0 := congrFun q 0
      rw [q0]
  rw [h, Finset.fold_image]
  · rfl
  · intro g _ g' _ q
    exact congrFun q 1

theorem feats_apply (n : Fin 65536) (g : Fin 32) (c : Fin 4) : feats V (ix3 n g c) = Spec.feat (P V n) c g := by
  match c with
  | 0 => pointwise [feats]; exact v164_apply V n g 0
  | 1 => pointwise [feats]; exact v164_apply V n g 1
  | 2 => pointwise [feats]; exact v164_apply V n g 2
  | 3 =>
    pointwise [feats]
    have e := fold_mid (res_main_v166 V) (Ideal.ofBits FTy.f32 4286578688#32) n
    refine (congrArg (fun z : EReal => max (Ideal.ofBits FTy.f32 1056964608#32 - Ideal.div (res_main_v166 V (ix3 n g 0))
      (Ideal.ofBits FTy.f32 1073741824#32 * (z + Ideal.ofBits FTy.f32 730643660#32))) 0 + Ideal.ofBits FTy.f32 1056964608#32) e).trans ?_
    simp only [v166_apply]
    rfl

theorem keep (x : BitVec 32) (k : BitVec 32) (h : x.toNat < 2 ^ 31) :
    Scalar.select (IntOp.cmpi .slt x 0#32) (IntOp.addi x k) x = x := Routing.wrap_of_lt x _ h

theorem place0 (n : Fin 65536) (g : Fin 32) : places V (ix2 (flat n g) 0) = BitVec.ofNat 32 n.val := by
  pointwise [places]
  rw [v203_apply, keep]
  rw [BitVec.toNat_ofNat]; omega

theorem small (a : Fin 6) : (BitVec.ofNat 32 a.val).toNat < 2 ^ 31 := by revert a; decide

theorem place1 (n : Fin 65536) (g : Fin 32) : places V (ix2 (flat n g) 1) = BitVec.ofNat 32 (Spec.itOf (P V n) g).val := by
  pointwise [places]
  rw [v204_apply, keep _ _ (small _)]

theorem place2 (n : Fin 65536) (g : Fin 32) : places V (ix2 (flat n g) 2) = BitVec.ofNat 32 (Spec.ipOf (P V n) g).val := by
  pointwise [places]
  rw [v205_apply, keep _ _ (small _)]

/-- The scatter's place table is read at the update's row. -/
theorem start_eq (f : Fin 2097152) (c : Fin 4) (idx : IVec S2097152x3 32) :
    (scatter_S65536x6x6x4_S2097152x3_S2097152x4_1_012_012_1.start (ix2 f c) idx 0 = (idx (ix2 f 0)).toInt
    ∧ scatter_S65536x6x6x4_S2097152x3_S2097152x4_1_012_012_1.start (ix2 f c) idx 1 = (idx (ix2 f 1)).toInt
    ∧ scatter_S65536x6x6x4_S2097152x3_S2097152x4_1_012_012_1.start (ix2 f c) idx 2 = (idx (ix2 f 2)).toInt
    ∧ scatter_S65536x6x6x4_S2097152x3_S2097152x4_1_012_012_1.start (ix2 f c) idx 3 = 0) := by
  have e : ∀ k : Fin 3, scatter_S65536x6x6x4_S2097152x3_S2097152x4_1_012_012_1.siIdx (ix2 f c) k = ix2 f k := fun k => by
    funext a
    match a with
    | 0 => rfl
    | 1 => rfl
  exact ⟨congrArg (fun z => (idx z).toInt) (e 0), congrArg (fun z => (idx z).toInt) (e 1), congrArg (fun z => (idx z).toInt) (e 2), rfl⟩

theorem lands (n' n : Fin 65536) (g : Fin 32) (c' c : Fin 4) (a b : Fin 6) :
    scatter_S65536x6x6x4_S2097152x3_S2097152x4_1_012_012_1.resultIdx? (ix2 (flat n' g) c') (places V) = some (ix4 n a b c)
      ↔ n' = n ∧ Spec.itOf (P V n') g = a ∧ Spec.ipOf (P V n') g = b ∧ c' = c := by
  obtain ⟨h0, h1, h2, h3⟩ := start_eq (flat n' g) c' (places V)
  rw [place0] at h0
  rw [place1] at h1
  rw [place2] at h2
  generalize Spec.itOf (P V n') g = a' at *
  generalize Spec.ipOf (P V n') g = b' at *
  have t : ∀ m : Nat, m < 65536 → (BitVec.ofNat 32 m).toInt = m := fun m hm => by
    rw [BitVec.toInt_eq_toNat_cond, BitVec.toNat_ofNat]; omega
  rw [t _ n'.isLt] at h0
  rw [t _ (by omega)] at h1 h2
  rw [Routing.resultIdx?_eq_some]
  simp only [Fin.ext_iff]
  constructor
  · intro q
    have q0 := q 0
    have q1 := q 1
    have q2 := q 2
    have q3 := q 3
    rw [h0] at q0
    rw [h1] at q1
    rw [h2] at q2
    rw [h3] at q3
    change (n'.val : Int) + (0 : Nat) = n.val at q0
    change (a'.val : Int) + (0 : Nat) = a.val at q1
    change (b'.val : Int) + (0 : Nat) = b.val at q2
    change (0 : Int) + (c'.val : Nat) = c.val at q3
    omega
  · rintro ⟨q0, q1, q2, q3⟩ x
    match x with
    | 0 => rw [h0]; change (n'.val : Int) + (0 : Nat) = n.val; omega
    | 1 => rw [h1]; change (a'.val : Int) + (0 : Nat) = a.val; omega
    | 2 => rw [h2]; change (b'.val : Int) + (0 : Nat) = b.val; omega
    | 3 => rw [h3]; change (0 : Int) + (c'.val : Nat) = c.val; omega

/-- A scatter that adds, at one place: the sum of the updates that land there. -/
theorem scatterAdd_apply {s si u : Shape} {w : Nat} (d : ScatterDims s si u) (x : FVec Ideal s .f32) (idx : IVec si w) (upd : FVec Ideal u .f32)
    (i : s.Idx) : Host.scatterAdd d x idx upd i = x i + ∑ j ∈ Finset.univ.filter (fun j => d.resultIdx? j idx = some i), upd j := rfl

theorem upd_apply (n : Fin 65536) (g : Fin 32) (c : Fin 4) :
    shapeCast S2097152x4 (feats V) shapeCasts_S65536x32x4_S2097152x4 (ix2 (flat n g) c) = Spec.feat (P V n) c g := by
  have hn : (⟨(n.val * 32 + g.val) / 32, by omega⟩ : Fin 65536) = n := Fin.ext (by show (n.val * 32 + g.val) / 32 = n.val; omega)
  have hg : (⟨(n.val * 32 + g.val) % 32, by omega⟩ : Fin 32) = g := Fin.ext (by show (n.val * 32 + g.val) % 32 = g.val; omega)
  pointwise []
  rw [hn, hg, feats_apply]

theorem hists_apply (n : Fin 65536) (a b : Fin 6) (c : Fin 4) : hists V (ix4 n a b c) = Spec.hist (P V n) a b c := by
  unfold hists
  rw [scatterAdd_apply]
  have z : broadcastInDim S65536x6x6x4 ![] bcast_S_S65536x6x6x4 (constant (F := Ideal) S_ .f32 0x00000000#32) (ix4 n a b c) = 0 := by
    pointwise []
  rw [z]
  refine (zero_add _).trans ?_
  unfold Spec.hist
  rw [← Finset.sum_filter]
  symm
  refine Finset.sum_bij (fun g _ => (ix2 (flat n g) c : S2097152x4.Idx)) (fun g hg => ?_) (fun g _ g' _ q => ?_) (fun j hj => ?_) (fun g hg => ?_)
  · rw [Finset.mem_filter] at hg ⊢
    exact ⟨Finset.mem_univ _, (lands V n n g c c a b).2 ⟨rfl, hg.2.1, hg.2.2, rfl⟩⟩
  · have q0 : flat n g = flat n g' := congrFun q 0
    have := congrArg Fin.val q0
    exact Fin.ext (by dsimp only at this; omega)
  · obtain ⟨f, c', rfl⟩ : ∃ (f : Fin 2097152) (c' : Fin 4), j = ix2 f c' := ⟨j 0, j 1, by idx_vars j⟩
    obtain ⟨n', g, rfl⟩ : ∃ n' g, f = flat n' g :=
      ⟨⟨f.val / 32, by omega⟩, ⟨f.val % 32, by omega⟩, Fin.ext (by show f.val = f.val / 32 * 32 + f.val % 32; omega)⟩
    rw [Finset.mem_filter] at hj
    obtain ⟨rfl, h1, h2, rfl⟩ := (lands V n' n g c' c a b).1 hj.2
    exact ⟨g, Finset.mem_filter.2 ⟨Finset.mem_univ _, h1, h2⟩, rfl⟩
  · exact (upd_apply V n g c).symm

/-- Two columns of the other end on each side. -/
def sides (X : FVec Ideal S65536x4x10x6 .f32) : FVec Ideal S65536x4x10x10 .f32 :=
  concatenate S65536x4x10x10 3 [⟨S65536x4x10x2, (extractStridedSlice S65536x4x10x2 ![0, 0, 0, 4] X slices_S65536x4x10x6_S65536x4x10x2_0_0_0_4)⟩,
    ⟨S65536x4x10x6, X⟩, ⟨S65536x4x10x2, (extractStridedSlice S65536x4x10x2 ![0, 0, 0, 0] X slices_S65536x4x10x6_S65536x4x10x2_0_0_0_0)⟩]
    concatenates_S65536x4x10x2_S65536x4x10x6_S65536x4x10x2_S65536x4x10x10_d3

theorem v232_eq : res_main_v232 V = sides (res_main_v229 V) := rfl

theorem sides_apply (X : FVec Ideal S65536x4x10x6 .f32) (n : Fin 65536) (c : Fin 4) (y x : Fin 10) :
    sides X (ix4 n c y x) = X (ix4 n c y ⟨(x.val + 4) % 6, Nat.mod_lt _ (by omega)⟩) := by
  have e : ∀ (k : Nat) (hk : k < 6), k = (x.val + 4) % 6 → X (ix4 n c y ⟨k, hk⟩) = X (ix4 n c y ⟨(x.val + 4) % 6, Nat.mod_lt _ (by omega)⟩) := by
    rintro _ _ rfl; rfl
  pointwise [sides]
  split
  · exact e _ _ (by omega)
  · split
    · exact e _ _ (by omega)
    · exact e _ _ (by omega)

/-- Two rows of padding on each side. -/
def rows (X : FVec Ideal S65536x4x6x6 .f32) : FVec Ideal S65536x4x10x6 .f32 :=
  pad S65536x4x10x6 ![0, 0, 2, 0] ![0, 0, 2, 0] ![0, 0, 0, 0] X (sitofp .f32 (constantI S_ 32 0#32))
    pads_S65536x4x6x6_S65536x4x10x6_000_000_220_000 h_S_

theorem v229_rows : res_main_v229 V = rows (transpose S65536x4x6x6 [0, 3, 1, 2] (hists V) transposes_S65536x6x6x4_S65536x4x6x6_0_3_1_2) := rfl

theorem rows_apply (X : FVec Ideal S65536x4x6x6 .f32) (n : Fin 65536) (c : Fin 4) (y : Fin 10) (x : Fin 6) :
    rows X (ix4 n c y x) = if h : 2 ≤ y.val ∧ y.val - 2 < 6 then X (ix4 n c ⟨y.val - 2, h.2⟩ x) else 0 := by
  have z : FloatOps.sitofp (F := Ideal) FTy.f32 (0#32) = (0 : EReal) := by
    show (((0#32 : BitVec 32).toInt : ℝ) : EReal) = 0
    simp
  pointwise [rows]
  rw [z]

/-- The histogram with its padding rows and its wrapped columns. -/
theorem v232_apply (n : Fin 65536) (c : Fin 4) (y x : Fin 10) : res_main_v232 V (ix4 n c y x)
    = if h : 2 ≤ y.val ∧ y.val - 2 < 6 then Spec.hist (P V n) ⟨y.val - 2, h.2⟩ ⟨(x.val + 4) % 6, Nat.mod_lt _ (by omega)⟩ c else 0 := by
  rw [v232_eq, sides_apply, v229_rows, rows_apply]
  have t : ∀ (a b : Fin 6), transpose S65536x4x6x6 [0, 3, 1, 2] (hists V) transposes_S65536x6x6x4_S65536x4x6x6_0_3_1_2 (ix4 n c a b)
      = Spec.hist (P V n) a b c := fun a b => by
    pointwise []
    exact hists_apply V n a b c
  simp only [t]

end Cert.RefHist
end
-- ==== Proof.RefConv.lean ====
/- The reference's convolution over the bins, read at one place, and its result: each neighbour reads the convolution at
   its own bin. -/
module

public import proofs.«01_k».proof.Proof.RefHist
public import proofs.«01_k».proof.Proof.Conv

@[expose] public section

noncomputable section

namespace Cert.RefConv

open Idealize.ShloMosaic Idealize.SL.Sem Cert.ReferenceIdeal Cert.ReferenceIdeal.Gen Cert.ReferenceIdeal.Value Cert.Maths Cert.RefPoint

variable (V : Valuation Cert.ReferenceIdeal.τ Cert.ReferenceIdeal.sig (Elt Ideal))

/-- The filter. -/
abbrev wOf : FVec Ideal S1x4x5x5 .f32 := V (Proc.devRef .tc main_arg1)
abbrev bOf : FVec Ideal S1 .f32 := V (Proc.devRef .tc main_arg2)

/-- The product of a shifted window with one tap per feature. -/
theorem dot_apply (X : FVec Ideal S65536x4x6x6 .f32) (W : FVec Ideal S4 .f32) (n : Fin 65536) (a b : Fin 6) :
    Host.dotGeneral dot_S65536x4x6x6_S4_S65536x6x6_1_0_023_n_n_n none X W (ix3 n a b) = ∑ c : Fin 4, X (ix4 n c a b) * W (ix1 c) := by
  pointwise []

/-- The window shifted by `(u, v)`, times the taps at `(u, v)`. -/
def term (X : FVec Ideal S65536x4x10x10 .f32) (W : FVec Ideal S1x4x5x5 .f32) (n : Fin 65536) (a b : Fin 6) (u v : Fin 5) : EReal :=
  ∑ c : Fin 4, X (ix4 n c ⟨a.val + u.val, by omega⟩ ⟨b.val + v.val, by omega⟩) * W (ix4 0 c u v)

theorem term_apply (X : FVec Ideal S65536x4x10x10 .f32) (W : FVec Ideal S1x4x5x5 .f32) (n : Fin 65536) (a b : Fin 6) (u v : Nat)
    (hu : u < 5) (hv : v < 5) (hx : S65536x4x10x10.Slices ![0, 0, u, v] S65536x4x6x6) (hw : S1x4x5x5.Slices ![0, 0, u, v] S1x4x1x1) :
    Host.dotGeneral (F := Ideal) dot_S65536x4x6x6_S4_S65536x6x6_1_0_023_n_n_n none (extractStridedSlice S65536x4x6x6 ![0, 0, u, v] X hx)
      (shapeCast S4 (extractStridedSlice S1x4x1x1 ![0, 0, u, v] W hw) shapeCasts_S1x4x1x1_S4) (ix3 n a b) = term X W n a b ⟨u, hu⟩ ⟨v, hv⟩ := by
  rw [dot_apply]
  refine Finset.sum_congr rfl fun c _ => ?_
  have x : extractStridedSlice S65536x4x6x6 ![0, 0, u, v] X hx (ix4 n c a b) = X (ix4 n c ⟨a.val + u, by omega⟩ ⟨b.val + v, by omega⟩) := by
    unfold extractStridedSlice
    congr 1
    funext k
    apply Fin.ext
    match k with
    | 0 => show 0 + n.val = n.val; omega
    | 1 => show 0 + c.val = c.val; omega
    | 2 => show u + a.val = a.val + u; omega
    | 3 => show v + b.val = b.val + v; omega
  have w : shapeCast S4 (extractStridedSlice S1x4x1x1 ![0, 0, u, v] W hw) shapeCasts_S1x4x1x1_S4 (ix1 c) = W (ix4 0 c ⟨u, hu⟩ ⟨v, hv⟩) := by
    have r : shapeCast S4 (extractStridedSlice S1x4x1x1 ![0, 0, u, v] W hw) shapeCasts_S1x4x1x1_S4 (ix1 c)
        = extractStridedSlice S1x4x1x1 ![0, 0, u, v] W hw (ix4 0 c 0 0) := by
      generalize extractStridedSlice S1x4x1x1 ![0, 0, u, v] W hw = Y
      pointwise []
    rw [r]
    unfold extractStridedSlice
    congr 1
    funext k
    apply Fin.ext
    match k with
    | 0 => rfl
    | 1 => show 0 + c.val = c.val; omega
    | 2 => rfl
    | 3 => rfl
  rw [x, w]

theorem windows : ∀ u v : Fin 5, S65536x4x10x10.Slices ![0, 0, u.val, v.val] S65536x4x6x6 := by decide
theorem cells : ∀ u v : Fin 5, S1x4x5x5.Slices ![0, 0, u.val, v.val] S1x4x1x1 := by decide

/-- The part of the convolution that tap position `p` gives. -/
def part (X : FVec Ideal S65536x4x10x10 .f32) (W : FVec Ideal S1x4x5x5 .f32) (p : Fin 5 × Fin 5) : FVec Ideal S65536x6x6 .f32 :=
  Host.dotGeneral (F := Ideal) dot_S65536x4x6x6_S4_S65536x6x6_1_0_023_n_n_n none
    (extractStridedSlice S65536x4x6x6 ![0, 0, p.1.val, p.2.val] X (windows p.1 p.2))
    (shapeCast S4 (extractStridedSlice S1x4x1x1 ![0, 0, p.1.val, p.2.val] W (cells p.1 p.2)) shapeCasts_S1x4x1x1_S4)

theorem part_apply (X : FVec Ideal S65536x4x10x10 .f32) (W : FVec Ideal S1x4x5x5 .f32) (p : Fin 5 × Fin 5) (n : Fin 65536) (a b : Fin 6) :
    part X W p (ix3 n a b) = term X W n a b p.1 p.2 := term_apply X W n a b _ _ p.1.isLt p.2.isLt _ _

def zeros : FVec Ideal S65536x6x6 .f32 := broadcastInDim S65536x6x6 ![] bcast_S_S65536x6x6 (constant (F := Ideal) S_ .f32 0x00000000#32)

/-- The parts of some tap positions added up in turn. -/
def adds (X : FVec Ideal S65536x4x10x10 .f32) (W : FVec Ideal S1x4x5x5 .f32) (l : List (Fin 5 × Fin 5)) : FVec Ideal S65536x6x6 .f32 :=
  l.foldl (fun s p => addf s (part X W p)) zeros

theorem adds_apply (X : FVec Ideal S65536x4x10x10 .f32) (W : FVec Ideal S1x4x5x5 .f32) (l : List (Fin 5 × Fin 5)) (n : Fin 65536) (a b : Fin 6) :
    adds X W l (ix3 n a b) = l.foldl (fun s p => s + term X W n a b p.1 p.2) (0 : EReal) := by
  have z : zeros (ix3 n a b) = (0 : EReal) := by
    pointwise [zeros]
  unfold adds
  rw [← z]
  generalize zeros = s
  induction l generalizing s with
  | nil => rfl
  | cons p l ih =>
    rw [List.foldl_cons, List.foldl_cons, ih]
    congr 1
    exact congrArg (fun e : EReal => (s (ix3 n a b) : EReal) + e) (part_apply X W p n a b)

/-- The tap positions in order. -/
def order : List (Fin 5 × Fin 5) :=
  [(0, 0), (0, 1), (0, 2), (0, 3), (0, 4), (1, 0), (1, 1), (1, 2), (1, 3), (1, 4), (2, 0), (2, 1), (2, 2),
    (2, 3), (2, 4), (3, 0), (3, 1), (3, 2), (3, 3), (3, 4), (4, 0), (4, 1), (4, 2), (4, 3), (4, 4)]

/-- The convolution with the bias. -/
def convs : FVec Ideal S65536x6x6 .f32 :=
  addf (addf (res_main_v353 V) (part (res_main_v232 V) (wOf V) (4, 4)))
    (broadcastInDim S65536x6x6 ![] bcast_S_S65536x6x6 (shapeCast S_ (bOf V) shapeCasts_S1_S_))

theorem convs_eq : convs V = addf (adds (res_main_v232 V) (wOf V) order)
    (broadcastInDim S65536x6x6 ![] bcast_S_S65536x6x6 (shapeCast S_ (bOf V) shapeCasts_S1_S_)) := by
  unfold convs res_main_v353 res_main_v293
  rfl

theorem term_eq (n : Fin 65536) (a b : Fin 6) (u v : Fin 5) : term (res_main_v232 V) (wOf V) n a b u v
    = ∑ c : Fin 4, Conv.around (Spec.hist (P V n)) c (a.val + u.val) (b.val + v.val) * wOf V (ix4 0 c u v) :=
  Finset.sum_congr rfl fun c _ => congrArg (· * wOf V (ix4 0 c u v)) (RefHist.v232_apply V n c _ _)

theorem convs_apply (n : Fin 65536) (a b : Fin 6) :
    convs V (ix3 n a b) = Conv.conv (Spec.hist (P V n)) (fun c u v => wOf V (ix4 0 c u v)) a b + bOf V (ix1 0) := by
  have r : broadcastInDim S65536x6x6 ![] bcast_S_S65536x6x6 (shapeCast S_ (bOf V) shapeCasts_S1_S_) (ix3 n a b) = bOf V (ix1 0) := by
    generalize bOf V = y
    pointwise []
  have d := adds_apply (res_main_v232 V) (wOf V) order n a b
  have e : order.foldl (fun s p => s + term (res_main_v232 V) (wOf V) n a b p.1 p.2) (0 : EReal)
      = ∑ u : Fin 5, ∑ v : Fin 5, term (res_main_v232 V) (wOf V) n a b u v := by
    simp only [order, List.foldl_cons, List.foldl_nil, Fin.sum_univ_five, zero_add, add_assoc]
  rw [convs_eq]
  refine (congrArg₂ (fun x y : EReal => x + y) (d.trans e) r).trans ?_
  simp only [term_eq]
  rfl

/-- Each neighbour reads the convolution at its bin. -/
theorem read_bin (X : FVec Ideal S65536x6x6 .f32) (idx : IVec S2097152x3 32) (f : Fin 2097152) (n : Fin 65536) (a b : Fin 6)
    (h0 : idx (ix2 f 0) = BitVec.ofNat 32 n.val) (h1 : idx (ix2 f 1) = BitVec.ofNat 32 a.val) (h2 : idx (ix2 f 2) = BitVec.ofNat 32 b.val) :
    Host.gather gather_S65536x6x6_S2097152x3_S2097152_n_012_n_n_012_1_111 X idx (ix1 f) = X (ix3 n a b) := by
  have s : ∀ k : Fin 3, GatherDims.siIdx gather_S65536x6x6_S2097152x3_S2097152_n_012_n_n_012_1_111 (ix1 f) k = ix2 f k := fun k => by
    funext c
    match c with
    | 0 => rfl
    | 1 => rfl
  have t : ∀ m : Nat, m < 65536 → (BitVec.ofNat 32 m).toInt.toNat = m := fun m hm => by
    rw [BitVec.toInt_eq_toNat_cond, BitVec.toNat_ofNat]; omega
  unfold Host.gather
  congr 1
  funext k
  apply Fin.ext
  match k with
  | 0 =>
    refine (congrArg (fun z : BitVec 32 => min z.toInt.toNat 65535 + 0 + 0) ((congrArg idx (s 0)).trans h0)).trans ?_
    rw [t _ n.isLt]
    show min n.val 65535 + 0 + 0 = n.val
    omega
  | 1 =>
    refine (congrArg (fun z : BitVec 32 => min z.toInt.toNat 5 + 0 + 0) ((congrArg idx (s 1)).trans h1)).trans ?_
    rw [t _ (by omega)]
    show min a.val 5 + 0 + 0 = a.val
    omega
  | 2 =>
    refine (congrArg (fun z : BitVec 32 => min z.toInt.toNat 5 + 0 + 0) ((congrArg idx (s 2)).trans h2)).trans ?_
    rw [t _ (by omega)]
    show min b.val 5 + 0 + 0 = b.val
    omega

/-- The reference's result. -/
def out : FVec Ideal S8x1x8192x32 .f32 :=
  broadcastInDim S8x1x8192x32 ![0, 2, 3] bcast_S8x8192x32_S8x1x8192x32_0_2_3 (shapeCast S8x8192x32
    (Host.gather gather_S65536x6x6_S2097152x3_S2097152_n_012_n_n_012_1_111 (convs V) (RefHist.places V)) shapeCasts_S2097152_S8x8192x32)

theorem out_apply (i : Fin 8) (N : Fin 8192) (g : Fin 32) :
    let n : Fin 65536 := ⟨i.val * 8192 + N.val, by omega⟩
    out V (ix4 i 0 N g) = Conv.conv (Spec.hist (P V n)) (fun c u v => wOf V (ix4 0 c u v)) (Spec.itOf (P V n) g) (Spec.ipOf (P V n) g)
      + bOf V (ix1 0) := by
  intro n
  have e : out V (ix4 i 0 N g) = Host.gather gather_S65536x6x6_S2097152x3_S2097152_n_012_n_n_012_1_111 (convs V) (RefHist.places V) (ix1 (flat n g)) := by
    unfold out
    generalize Host.gather gather_S65536x6x6_S2097152x3_S2097152_n_012_n_n_012_1_111 (convs V) (RefHist.places V) = y
    pointwise []
    exact congrArg (fun f => y (ix1 f)) (Fin.ext (by show i.val * 262144 + N.val * 32 + g.val = (i.val * 8192 + N.val) * 32 + g.val; omega))
  rw [e, read_bin _ _ _ n _ _ (RefHist.place0 V n g) (RefHist.place1 V n g) (RefHist.place2 V n g), convs_apply]

end Cert.RefConv
end
-- ==== Proof.Both.lean ====
/- The kernel's result and the reference's are the same at every place. -/
module

public import proofs.«01_k».proof.Proof.KHost
public import proofs.«01_k».proof.Proof.Mat
public import proofs.«01_k».proof.Proof.RefConv

@[expose] public section

noncomputable section

namespace Cert.Both

open Idealize.ShloMosaic Idealize.SL.Sem Cert.KernelIdeal Cert.KernelIdeal.Gen

/-- The kernel's result at one place. -/
theorem out_apply (dp : FVec Ideal S8x3x8192x32 .f32) (w : FVec Ideal S1x4x5x5 .f32) (b : FVec Ideal S1 .f32) (i : Fin 8) (N : Fin 8192) (g : Fin 32) :
    let n : Fin 65536 := ⟨i.val * 8192 + N.val, by omega⟩
    let P := Pass2.pn (KHost.coords dp) (KHost.rots dp) n
    KHost.out dp w b (ix4 i 0 N g) = Conv.conv (Spec.hist P) (fun c u v => w (ix4 0 c u v)) (Spec.itOf P g) (Spec.ipOf P g) + b (ix1 0) := by
  intro n P
  have e : KHost.out dp w b (ix4 i 0 N g) = Pass2.outT (KHost.coords dp) (KHost.rots dp) (transpose S36x144 [1, 0] (KHost.mat w) transposes_S144x36_S36x144_1_0)
      (shapeCast S1x1 b shapeCasts_S1_S1x1) (ix2 g n) := by
    unfold KHost.out
    generalize Pass2.outT (KHost.coords dp) (KHost.rots dp) (transpose S36x144 [1, 0] (KHost.mat w) transposes_S144x36_S36x144_1_0)
      (shapeCast S1x1 b shapeCasts_S1_S1x1) = y
    pointwise []
    rfl
  have t : ∀ (o : Fin 36) (q : Fin 144), transpose S36x144 [1, 0] (KHost.mat w) transposes_S144x36_S36x144_1_0 (ix2 o q) = KHost.mat w (ix2 q o) := fun o q => by
    generalize KHost.mat w = y
    pointwise []
  have c : shapeCast S1x1 b shapeCasts_S1_S1x1 (ix2 0 0) = b (ix1 0) := by
    pointwise []
  rw [e]
  show (∑ q : Fin 144, transpose S36x144 [1, 0] (KHost.mat w) transposes_S144x36_S36x144_1_0 (ix2 (Spec.bin (Spec.itOf P g) (Spec.ipOf P g)) q) * Spec.histRow P q)
    + shapeCast S1x1 b shapeCasts_S1_S1x1 (ix2 0 0) = _
  rw [c]
  simp only [t, Mat.mat_apply]
  rw [← Conv.sum_tap]
  generalize Spec.itOf P g = a
  generalize Spec.ipOf P g = a'
  have h0 : (⟨(Spec.bin a a').val / 6, by omega⟩ : Fin 6) = a := Fin.ext (by show (a.val * 6 + a'.val) / 6 = a.val; omega)
  have h1 : (⟨(Spec.bin a a').val % 6, by omega⟩ : Fin 6) = a' := Fin.ext (by show (a.val * 6 + a'.val) % 6 = a'.val; omega)
  rw [h0, h1]

/-- The two results agree. -/
theorem same (V : Valuation Cert.ReferenceIdeal.τ Cert.ReferenceIdeal.sig (Elt Ideal)) :
    RefConv.out V = KHost.out (RefFar.dpOf V) (RefConv.wOf V) (RefConv.bOf V) := by
  funext j
  obtain ⟨i, N, g, rfl⟩ : ∃ (i : Fin 8) (N : Fin 8192) (g : Fin 32), j = ix4 i 0 N g := ⟨j 0, j 2, j 3, by
    idx_vars j
    rw [Subsingleton.elim j1 0]⟩
  rw [RefConv.out_apply, out_apply]

end Cert.Both
end
-- ==== Proof.lean ====
/- The three programs end with their arguments unchanged and every semaphore back at zero, and over the extended reals the
   kernel and the reference end with the same result. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KRun
public import proofs.«01_k».proof.Proof.Both
public import Idealize.ShloMosaic.Adequacy
public import Idealize.ShloMosaic.Init

@[expose] public section

noncomputable section

namespace Cert.Proof

open Idealize.ShloMosaic Idealize.SL.Sem Cert.Kernel

/-- The reference's frame: its generated run read at the three arguments; it declares no semaphore. -/
theorem frame_ref : Cert.quiescent_ReferenceIdeal (hReferenceIdeal := Cert.ReferenceIdeal.Gen.facts) := by
  intro m ρ _
  exact (θ_run Cert.ReferenceIdeal.defs _ _).mono (fun r h => ⟨fun c => (h c).2,
      Idealize.ShloMosaic.sem_eq_zero_of_no_sems (by decide) r.2⟩)
    (Cert.ReferenceIdeal.Value.run (F := Ideal) m ρ)

set_option maxRecDepth 8192 in
/-- The reference ends with the kernel's function of the arguments in its result. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v383)
          = KHost.out (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  (θ_run Cert.ReferenceIdeal.defs _ _).mono (fun _ h c => ⟨(h c).1.trans (Both.same (StableHlo.launchContents m c)), (h c).2⟩)
    (Cert.ReferenceIdeal.Value.run (F := Ideal) m ρ)

/-- From equal arguments the kernel and the reference end with equal results. -/
theorem same_results : Cert.algebraic_KernelIdeal_ReferenceIdeal (hKernelIdeal := Cert.KernelIdeal.Gen.facts)
    (hReferenceIdeal := Cert.ReferenceIdeal.Gen.facts) := by
  intro m g m' g' _ h
  refine ⟨fun c => Cert.KHost.out (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · exact (θ_run Cert.KernelIdeal.defs _ _).mono (fun _ k c => ⟨(k c).1.trans (Cert.KHost.value m g c), (k c).2⟩)
      (Cert.KRun.run (F := Ideal) m g)
  · refine (θ_run Cert.ReferenceIdeal.defs _ _).mono (fun _ k c => ⟨(k c).1.trans ?_, (k c).2⟩) (ref_run m' g')
    rw [(h c).1, (h c).2.1, (h c).2.2]

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_ref, trivial, same_results⟩

end Cert.Proof

end
